-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 2048]⟩ ⟨2, ![4096, 2048]⟩ (Layout.meshBlock [2, 2, 4] ![[0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048 : Shape := ⟨1, ![2048]⟩
abbrev S2x2048 : Shape := ⟨2, ![2, 2048]⟩
abbrev S256x2048 : Shape := ⟨2, ![256, 2048]⟩
abbrev S16x2x2048 : Shape := ⟨3, ![16, 2, 2048]⟩
abbrev S2 : Shape := ⟨1, ![2]⟩
abbrev S15 : Shape := ⟨1, ![15]⟩
abbrev S16 : Shape := ⟨1, ![16]⟩
abbrev S1 : Shape := ⟨1, ![1]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S1x2x2048 : Shape := ⟨3, ![1, 2, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2x2048, .f32⟩
  | .local _ .vmem, ⟨0, _⟩ => ⟨S2x2048, .f32⟩
  | .local _ .vmem, ⟨1, _⟩ => ⟨S256x2048, .f32⟩
  | .local _ .vmem, ⟨2, _⟩ => ⟨S256x2048, .f32⟩
  | .local _ .vmem, ⟨3, _⟩ => ⟨S2x2048, .bf16⟩
  | .local _ .vmem, ⟨4, _⟩ => ⟨S16x2x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_4 : BitVec 32 := 4#32
  let v13 : BitVec 32 := Scalar.muli v5 c4_i32_4
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v14 : BitVec 32 := Scalar.addi v13 v8
  let c256_i32 : BitVec 32 := 256#32
  let v15 : BitVec 32 := Scalar.muli v14 c256_i32
  let c0_i32_5 : BitVec 32 := 0#32
  ![v15.toNat, 0]
def k0_dev1 (d0 : Dev nD) : Nat :=
  let c0_i32_16 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_8 : BitVec 32 := 0#32
  let v23 : BitVec 32 := Scalar.addi v2 c0_i32_8
  let c2_i32_9 : BitVec 32 := 2#32
  let v24 : BitVec 32 := Scalar.remsi v23 c2_i32_9
  let c8_i32_15 : BitVec 32 := 8#32
  let v29 : BitVec 32 := Scalar.muli v24 c8_i32_15
  let v30 : BitVec 32 := Scalar.addi c0_i32_16 v29
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_10 : BitVec 32 := 0#32
  let v25 : BitVec 32 := Scalar.addi v5 c0_i32_10
  let c2_i32_11 : BitVec 32 := 2#32
  let v26 : BitVec 32 := Scalar.remsi v25 c2_i32_11
  let c4_i32_17 : BitVec 32 := 4#32
  let v31 : BitVec 32 := Scalar.muli v26 c4_i32_17
  let v32 : BitVec 32 := Scalar.addi v30 v31
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v27 : BitVec 32 := Scalar.addi v8 c1_i32_12
  let c4_i32_13 : BitVec 32 := 4#32
  let v28 : BitVec 32 := Scalar.remsi v27 c4_i32_13
  let c1_i32_18 : BitVec 32 := 1#32
  let v33 : BitVec 32 := Scalar.muli v28 c1_i32_18
  let v34 : BitVec 32 := Scalar.addi v32 v33
  v34.toNat
def k0_dev2 (d0 : Dev nD) : Nat :=
  let c0_i32_27 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_19 : BitVec 32 := 0#32
  let v35 : BitVec 32 := Scalar.addi v2 c0_i32_19
  let c2_i32_20 : BitVec 32 := 2#32
  let v36 : BitVec 32 := Scalar.remsi v35 c2_i32_20
  let c8_i32_26 : BitVec 32 := 8#32
  let v41 : BitVec 32 := Scalar.muli v36 c8_i32_26
  let v42 : BitVec 32 := Scalar.addi c0_i32_27 v41
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_21 : BitVec 32 := 0#32
  let v37 : BitVec 32 := Scalar.addi v5 c0_i32_21
  let c2_i32_22 : BitVec 32 := 2#32
  let v38 : BitVec 32 := Scalar.remsi v37 c2_i32_22
  let c4_i32_28 : BitVec 32 := 4#32
  let v43 : BitVec 32 := Scalar.muli v38 c4_i32_28
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_23 : BitVec 32 := 2#32
  let v39 : BitVec 32 := Scalar.addi v8 c2_i32_23
  let c4_i32_24 : BitVec 32 := 4#32
  let v40 : BitVec 32 := Scalar.remsi v39 c4_i32_24
  let c1_i32_29 : BitVec 32 := 1#32
  let v45 : BitVec 32 := Scalar.muli v40 c1_i32_29
  let v46 : BitVec 32 := Scalar.addi v44 v45
  v46.toNat
def k0_dev3 (d0 : Dev nD) : Nat :=
  let c0_i32_37 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_30 : BitVec 32 := 0#32
  let v47 : BitVec 32 := Scalar.addi v2 c0_i32_30
  let c2_i32_31 : BitVec 32 := 2#32
  let v48 : BitVec 32 := Scalar.remsi v47 c2_i32_31
  let c8_i32_36 : BitVec 32 := 8#32
  let v53 : BitVec 32 := Scalar.muli v48 c8_i32_36
  let v54 : BitVec 32 := Scalar.addi c0_i32_37 v53
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_32 : BitVec 32 := 0#32
  let v49 : BitVec 32 := Scalar.addi v5 c0_i32_32
  let c2_i32_33 : BitVec 32 := 2#32
  let v50 : BitVec 32 := Scalar.remsi v49 c2_i32_33
  let c4_i32_38 : BitVec 32 := 4#32
  let v55 : BitVec 32 := Scalar.muli v50 c4_i32_38
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v51 : BitVec 32 := Scalar.addi v8 c3_i32
  let c4_i32_34 : BitVec 32 := 4#32
  let v52 : BitVec 32 := Scalar.remsi v51 c4_i32_34
  let c1_i32_39 : BitVec 32 := 1#32
  let v57 : BitVec 32 := Scalar.muli v52 c1_i32_39
  let v58 : BitVec 32 := Scalar.addi v56 v57
  v58.toNat
def k0_dev4 (d0 : Dev nD) : Nat :=
  let c0_i32_48 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_40 : BitVec 32 := 0#32
  let v59 : BitVec 32 := Scalar.addi v2 c0_i32_40
  let c2_i32_41 : BitVec 32 := 2#32
  let v60 : BitVec 32 := Scalar.remsi v59 c2_i32_41
  let c8_i32_47 : BitVec 32 := 8#32
  let v65 : BitVec 32 := Scalar.muli v60 c8_i32_47
  let v66 : BitVec 32 := Scalar.addi c0_i32_48 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_42 : BitVec 32 := 1#32
  let v61 : BitVec 32 := Scalar.addi v5 c1_i32_42
  let c2_i32_43 : BitVec 32 := 2#32
  let v62 : BitVec 32 := Scalar.remsi v61 c2_i32_43
  let c4_i32_49 : BitVec 32 := 4#32
  let v67 : BitVec 32 := Scalar.muli v62 c4_i32_49
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_44 : BitVec 32 := 0#32
  let v63 : BitVec 32 := Scalar.addi v8 c0_i32_44
  let c4_i32_45 : BitVec 32 := 4#32
  let v64 : BitVec 32 := Scalar.remsi v63 c4_i32_45
  let c1_i32_50 : BitVec 32 := 1#32
  let v69 : BitVec 32 := Scalar.muli v64 c1_i32_50
  let v70 : BitVec 32 := Scalar.addi v68 v69
  v70.toNat
def k0_dev5 (d0 : Dev nD) : Nat :=
  let c0_i32_59 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_51 : BitVec 32 := 0#32
  let v71 : BitVec 32 := Scalar.addi v2 c0_i32_51
  let c2_i32_52 : BitVec 32 := 2#32
  let v72 : BitVec 32 := Scalar.remsi v71 c2_i32_52
  let c8_i32_58 : BitVec 32 := 8#32
  let v77 : BitVec 32 := Scalar.muli v72 c8_i32_58
  let v78 : BitVec 32 := Scalar.addi c0_i32_59 v77
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_53 : BitVec 32 := 1#32
  let v73 : BitVec 32 := Scalar.addi v5 c1_i32_53
  let c2_i32_54 : BitVec 32 := 2#32
  let v74 : BitVec 32 := Scalar.remsi v73 c2_i32_54
  let c4_i32_60 : BitVec 32 := 4#32
  let v79 : BitVec 32 := Scalar.muli v74 c4_i32_60
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v75 : BitVec 32 := Scalar.addi v8 c1_i32_55
  let c4_i32_56 : BitVec 32 := 4#32
  let v76 : BitVec 32 := Scalar.remsi v75 c4_i32_56
  let c1_i32_61 : BitVec 32 := 1#32
  let v81 : BitVec 32 := Scalar.muli v76 c1_i32_61
  let v82 : BitVec 32 := Scalar.addi v80 v81
  v82.toNat
def k0_dev6 (d0 : Dev nD) : Nat :=
  let c0_i32_70 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_62 : BitVec 32 := 0#32
  let v83 : BitVec 32 := Scalar.addi v2 c0_i32_62
  let c2_i32_63 : BitVec 32 := 2#32
  let v84 : BitVec 32 := Scalar.remsi v83 c2_i32_63
  let c8_i32_69 : BitVec 32 := 8#32
  let v89 : BitVec 32 := Scalar.muli v84 c8_i32_69
  let v90 : BitVec 32 := Scalar.addi c0_i32_70 v89
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_64 : BitVec 32 := 1#32
  let v85 : BitVec 32 := Scalar.addi v5 c1_i32_64
  let c2_i32_65 : BitVec 32 := 2#32
  let v86 : BitVec 32 := Scalar.remsi v85 c2_i32_65
  let c4_i32_71 : BitVec 32 := 4#32
  let v91 : BitVec 32 := Scalar.muli v86 c4_i32_71
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_66 : BitVec 32 := 2#32
  let v87 : BitVec 32 := Scalar.addi v8 c2_i32_66
  let c4_i32_67 : BitVec 32 := 4#32
  let v88 : BitVec 32 := Scalar.remsi v87 c4_i32_67
  let c1_i32_72 : BitVec 32 := 1#32
  let v93 : BitVec 32 := Scalar.muli v88 c1_i32_72
  let v94 : BitVec 32 := Scalar.addi v92 v93
  v94.toNat
def k0_dev7 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_73 : BitVec 32 := 0#32
  let v95 : BitVec 32 := Scalar.addi v2 c0_i32_73
  let c2_i32_74 : BitVec 32 := 2#32
  let v96 : BitVec 32 := Scalar.remsi v95 c2_i32_74
  let c8_i32_80 : BitVec 32 := 8#32
  let v101 : BitVec 32 := Scalar.muli v96 c8_i32_80
  let v102 : BitVec 32 := Scalar.addi c0_i32_81 v101
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_75 : BitVec 32 := 1#32
  let v97 : BitVec 32 := Scalar.addi v5 c1_i32_75
  let c2_i32_76 : BitVec 32 := 2#32
  let v98 : BitVec 32 := Scalar.remsi v97 c2_i32_76
  let c4_i32_82 : BitVec 32 := 4#32
  let v103 : BitVec 32 := Scalar.muli v98 c4_i32_82
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_77 : BitVec 32 := 3#32
  let v99 : BitVec 32 := Scalar.addi v8 c3_i32_77
  let c4_i32_78 : BitVec 32 := 4#32
  let v100 : BitVec 32 := Scalar.remsi v99 c4_i32_78
  let c1_i32_83 : BitVec 32 := 1#32
  let v105 : BitVec 32 := Scalar.muli v100 c1_i32_83
  let v106 : BitVec 32 := Scalar.addi v104 v105
  v106.toNat
def k0_dev8 (d0 : Dev nD) : Nat :=
  let c0_i32_92 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_84 : BitVec 32 := 1#32
  let v107 : BitVec 32 := Scalar.addi v2 c1_i32_84
  let c2_i32_85 : BitVec 32 := 2#32
  let v108 : BitVec 32 := Scalar.remsi v107 c2_i32_85
  let c8_i32_91 : BitVec 32 := 8#32
  let v113 : BitVec 32 := Scalar.muli v108 c8_i32_91
  let v114 : BitVec 32 := Scalar.addi c0_i32_92 v113
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_86 : BitVec 32 := 0#32
  let v109 : BitVec 32 := Scalar.addi v5 c0_i32_86
  let c2_i32_87 : BitVec 32 := 2#32
  let v110 : BitVec 32 := Scalar.remsi v109 c2_i32_87
  let c4_i32_93 : BitVec 32 := 4#32
  let v115 : BitVec 32 := Scalar.muli v110 c4_i32_93
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_88 : BitVec 32 := 0#32
  let v111 : BitVec 32 := Scalar.addi v8 c0_i32_88
  let c4_i32_89 : BitVec 32 := 4#32
  let v112 : BitVec 32 := Scalar.remsi v111 c4_i32_89
  let c1_i32_94 : BitVec 32 := 1#32
  let v117 : BitVec 32 := Scalar.muli v112 c1_i32_94
  let v118 : BitVec 32 := Scalar.addi v116 v117
  v118.toNat
def k0_dev9 (d0 : Dev nD) : Nat :=
  let c0_i32_103 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_95 : BitVec 32 := 1#32
  let v119 : BitVec 32 := Scalar.addi v2 c1_i32_95
  let c2_i32_96 : BitVec 32 := 2#32
  let v120 : BitVec 32 := Scalar.remsi v119 c2_i32_96
  let c8_i32_102 : BitVec 32 := 8#32
  let v125 : BitVec 32 := Scalar.muli v120 c8_i32_102
  let v126 : BitVec 32 := Scalar.addi c0_i32_103 v125
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_97 : BitVec 32 := 0#32
  let v121 : BitVec 32 := Scalar.addi v5 c0_i32_97
  let c2_i32_98 : BitVec 32 := 2#32
  let v122 : BitVec 32 := Scalar.remsi v121 c2_i32_98
  let c4_i32_104 : BitVec 32 := 4#32
  let v127 : BitVec 32 := Scalar.muli v122 c4_i32_104
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v123 : BitVec 32 := Scalar.addi v8 c1_i32_99
  let c4_i32_100 : BitVec 32 := 4#32
  let v124 : BitVec 32 := Scalar.remsi v123 c4_i32_100
  let c1_i32_105 : BitVec 32 := 1#32
  let v129 : BitVec 32 := Scalar.muli v124 c1_i32_105
  let v130 : BitVec 32 := Scalar.addi v128 v129
  v130.toNat
def k0_dev10 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_106 : BitVec 32 := 1#32
  let v131 : BitVec 32 := Scalar.addi v2 c1_i32_106
  let c2_i32_107 : BitVec 32 := 2#32
  let v132 : BitVec 32 := Scalar.remsi v131 c2_i32_107
  let c8_i32_113 : BitVec 32 := 8#32
  let v137 : BitVec 32 := Scalar.muli v132 c8_i32_113
  let v138 : BitVec 32 := Scalar.addi c0_i32_114 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_108 : BitVec 32 := 0#32
  let v133 : BitVec 32 := Scalar.addi v5 c0_i32_108
  let c2_i32_109 : BitVec 32 := 2#32
  let v134 : BitVec 32 := Scalar.remsi v133 c2_i32_109
  let c4_i32_115 : BitVec 32 := 4#32
  let v139 : BitVec 32 := Scalar.muli v134 c4_i32_115
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_110 : BitVec 32 := 2#32
  let v135 : BitVec 32 := Scalar.addi v8 c2_i32_110
  let c4_i32_111 : BitVec 32 := 4#32
  let v136 : BitVec 32 := Scalar.remsi v135 c4_i32_111
  let c1_i32_116 : BitVec 32 := 1#32
  let v141 : BitVec 32 := Scalar.muli v136 c1_i32_116
  let v142 : BitVec 32 := Scalar.addi v140 v141
  v142.toNat
def k0_dev11 (d0 : Dev nD) : Nat :=
  let c0_i32_125 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_117 : BitVec 32 := 1#32
  let v143 : BitVec 32 := Scalar.addi v2 c1_i32_117
  let c2_i32_118 : BitVec 32 := 2#32
  let v144 : BitVec 32 := Scalar.remsi v143 c2_i32_118
  let c8_i32_124 : BitVec 32 := 8#32
  let v149 : BitVec 32 := Scalar.muli v144 c8_i32_124
  let v150 : BitVec 32 := Scalar.addi c0_i32_125 v149
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_119 : BitVec 32 := 0#32
  let v145 : BitVec 32 := Scalar.addi v5 c0_i32_119
  let c2_i32_120 : BitVec 32 := 2#32
  let v146 : BitVec 32 := Scalar.remsi v145 c2_i32_120
  let c4_i32_126 : BitVec 32 := 4#32
  let v151 : BitVec 32 := Scalar.muli v146 c4_i32_126
  let v152 : BitVec 32 := Scalar.addi v150 v151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_121 : BitVec 32 := 3#32
  let v147 : BitVec 32 := Scalar.addi v8 c3_i32_121
  let c4_i32_122 : BitVec 32 := 4#32
  let v148 : BitVec 32 := Scalar.remsi v147 c4_i32_122
  let c1_i32_127 : BitVec 32 := 1#32
  let v153 : BitVec 32 := Scalar.muli v148 c1_i32_127
  let v154 : BitVec 32 := Scalar.addi v152 v153
  v154.toNat
def k0_dev12 (d0 : Dev nD) : Nat :=
  let c0_i32_136 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_128 : BitVec 32 := 1#32
  let v155 : BitVec 32 := Scalar.addi v2 c1_i32_128
  let c2_i32_129 : BitVec 32 := 2#32
  let v156 : BitVec 32 := Scalar.remsi v155 c2_i32_129
  let c8_i32_135 : BitVec 32 := 8#32
  let v161 : BitVec 32 := Scalar.muli v156 c8_i32_135
  let v162 : BitVec 32 := Scalar.addi c0_i32_136 v161
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_130 : BitVec 32 := 1#32
  let v157 : BitVec 32 := Scalar.addi v5 c1_i32_130
  let c2_i32_131 : BitVec 32 := 2#32
  let v158 : BitVec 32 := Scalar.remsi v157 c2_i32_131
  let c4_i32_137 : BitVec 32 := 4#32
  let v163 : BitVec 32 := Scalar.muli v158 c4_i32_137
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_132 : BitVec 32 := 0#32
  let v159 : BitVec 32 := Scalar.addi v8 c0_i32_132
  let c4_i32_133 : BitVec 32 := 4#32
  let v160 : BitVec 32 := Scalar.remsi v159 c4_i32_133
  let c1_i32_138 : BitVec 32 := 1#32
  let v165 : BitVec 32 := Scalar.muli v160 c1_i32_138
  let v166 : BitVec 32 := Scalar.addi v164 v165
  v166.toNat
def k0_dev13 (d0 : Dev nD) : Nat :=
  let c0_i32_147 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_139 : BitVec 32 := 1#32
  let v167 : BitVec 32 := Scalar.addi v2 c1_i32_139
  let c2_i32_140 : BitVec 32 := 2#32
  let v168 : BitVec 32 := Scalar.remsi v167 c2_i32_140
  let c8_i32_146 : BitVec 32 := 8#32
  let v173 : BitVec 32 := Scalar.muli v168 c8_i32_146
  let v174 : BitVec 32 := Scalar.addi c0_i32_147 v173
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_141 : BitVec 32 := 1#32
  let v169 : BitVec 32 := Scalar.addi v5 c1_i32_141
  let c2_i32_142 : BitVec 32 := 2#32
  let v170 : BitVec 32 := Scalar.remsi v169 c2_i32_142
  let c4_i32_148 : BitVec 32 := 4#32
  let v175 : BitVec 32 := Scalar.muli v170 c4_i32_148
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_143 : BitVec 32 := 1#32
  let v171 : BitVec 32 := Scalar.addi v8 c1_i32_143
  let c4_i32_144 : BitVec 32 := 4#32
  let v172 : BitVec 32 := Scalar.remsi v171 c4_i32_144
  let c1_i32_149 : BitVec 32 := 1#32
  let v177 : BitVec 32 := Scalar.muli v172 c1_i32_149
  let v178 : BitVec 32 := Scalar.addi v176 v177
  v178.toNat
def k0_dev14 (d0 : Dev nD) : Nat :=
  let c0_i32_158 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_150 : BitVec 32 := 1#32
  let v179 : BitVec 32 := Scalar.addi v2 c1_i32_150
  let c2_i32_151 : BitVec 32 := 2#32
  let v180 : BitVec 32 := Scalar.remsi v179 c2_i32_151
  let c8_i32_157 : BitVec 32 := 8#32
  let v185 : BitVec 32 := Scalar.muli v180 c8_i32_157
  let v186 : BitVec 32 := Scalar.addi c0_i32_158 v185
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_152 : BitVec 32 := 1#32
  let v181 : BitVec 32 := Scalar.addi v5 c1_i32_152
  let c2_i32_153 : BitVec 32 := 2#32
  let v182 : BitVec 32 := Scalar.remsi v181 c2_i32_153
  let c4_i32_159 : BitVec 32 := 4#32
  let v187 : BitVec 32 := Scalar.muli v182 c4_i32_159
  let v188 : BitVec 32 := Scalar.addi v186 v187
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_154 : BitVec 32 := 2#32
  let v183 : BitVec 32 := Scalar.addi v8 c2_i32_154
  let c4_i32_155 : BitVec 32 := 4#32
  let v184 : BitVec 32 := Scalar.remsi v183 c4_i32_155
  let c1_i32_160 : BitVec 32 := 1#32
  let v189 : BitVec 32 := Scalar.muli v184 c1_i32_160
  let v190 : BitVec 32 := Scalar.addi v188 v189
  v190.toNat
def k0_dev15 (d0 : Dev nD) : Nat :=
  let c0_i32_169 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_161 : BitVec 32 := 1#32
  let v191 : BitVec 32 := Scalar.addi v2 c1_i32_161
  let c2_i32_162 : BitVec 32 := 2#32
  let v192 : BitVec 32 := Scalar.remsi v191 c2_i32_162
  let c8_i32_168 : BitVec 32 := 8#32
  let v197 : BitVec 32 := Scalar.muli v192 c8_i32_168
  let v198 : BitVec 32 := Scalar.addi c0_i32_169 v197
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_163 : BitVec 32 := 1#32
  let v193 : BitVec 32 := Scalar.addi v5 c1_i32_163
  let c2_i32_164 : BitVec 32 := 2#32
  let v194 : BitVec 32 := Scalar.remsi v193 c2_i32_164
  let c4_i32_170 : BitVec 32 := 4#32
  let v199 : BitVec 32 := Scalar.muli v194 c4_i32_170
  let v200 : BitVec 32 := Scalar.addi v198 v199
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_165 : BitVec 32 := 3#32
  let v195 : BitVec 32 := Scalar.addi v8 c3_i32_165
  let c4_i32_166 : BitVec 32 := 4#32
  let v196 : BitVec 32 := Scalar.remsi v195 c4_i32_166
  let c1_i32_171 : BitVec 32 := 1#32
  let v201 : BitVec 32 := Scalar.muli v196 c1_i32_171
  let v202 : BitVec 32 := Scalar.addi v200 v201
  v202.toNat
def k0_off2 (d0 : Dev nD) : Fin 1 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  ![v12.toNat]
def k0_off3 (d0 : Dev nD) : Fin 3 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2 : BitVec 32 := 8#32
  let v9 : BitVec 32 := Scalar.muli v2 c8_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_3 : BitVec 32 := 4#32
  let v10 : BitVec 32 := Scalar.muli v5 c4_i32_3
  let v11 : BitVec 32 := Scalar.addi v9 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v12 : BitVec 32 := Scalar.addi v11 v8
  let c0_i32_188 : BitVec 32 := 0#32
  let c0_i32_189 : BitVec 32 := 0#32
  ![v12.toNat, 0, 0]
def k0_dev16 (d0 : Dev nD) : Nat :=
  let c0_i32_198 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_190 : BitVec 32 := 0#32
  let v242 : BitVec 32 := Scalar.addi v2 c0_i32_190
  let c2_i32_191 : BitVec 32 := 2#32
  let v243 : BitVec 32 := Scalar.remsi v242 c2_i32_191
  let c8_i32_197 : BitVec 32 := 8#32
  let v248 : BitVec 32 := Scalar.muli v243 c8_i32_197
  let v249 : BitVec 32 := Scalar.addi c0_i32_198 v248
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_192 : BitVec 32 := 0#32
  let v244 : BitVec 32 := Scalar.addi v5 c0_i32_192
  let c2_i32_193 : BitVec 32 := 2#32
  let v245 : BitVec 32 := Scalar.remsi v244 c2_i32_193
  let c4_i32_199 : BitVec 32 := 4#32
  let v250 : BitVec 32 := Scalar.muli v245 c4_i32_199
  let v251 : BitVec 32 := Scalar.addi v249 v250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_194 : BitVec 32 := 1#32
  let v246 : BitVec 32 := Scalar.addi v8 c1_i32_194
  let c4_i32_195 : BitVec 32 := 4#32
  let v247 : BitVec 32 := Scalar.remsi v246 c4_i32_195
  let c1_i32_200 : BitVec 32 := 1#32
  let v252 : BitVec 32 := Scalar.muli v247 c1_i32_200
  let v253 : BitVec 32 := Scalar.addi v251 v252
  v253.toNat
def k0_dev17 (d0 : Dev nD) : Nat :=
  let c0_i32_211 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_203 : BitVec 32 := 0#32
  let v260 : BitVec 32 := Scalar.addi v2 c0_i32_203
  let c2_i32_204 : BitVec 32 := 2#32
  let v261 : BitVec 32 := Scalar.remsi v260 c2_i32_204
  let c8_i32_210 : BitVec 32 := 8#32
  let v266 : BitVec 32 := Scalar.muli v261 c8_i32_210
  let v267 : BitVec 32 := Scalar.addi c0_i32_211 v266
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_205 : BitVec 32 := 0#32
  let v262 : BitVec 32 := Scalar.addi v5 c0_i32_205
  let c2_i32_206 : BitVec 32 := 2#32
  let v263 : BitVec 32 := Scalar.remsi v262 c2_i32_206
  let c4_i32_212 : BitVec 32 := 4#32
  let v268 : BitVec 32 := Scalar.muli v263 c4_i32_212
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_207 : BitVec 32 := 2#32
  let v264 : BitVec 32 := Scalar.addi v8 c2_i32_207
  let c4_i32_208 : BitVec 32 := 4#32
  let v265 : BitVec 32 := Scalar.remsi v264 c4_i32_208
  let c1_i32_213 : BitVec 32 := 1#32
  let v270 : BitVec 32 := Scalar.muli v265 c1_i32_213
  let v271 : BitVec 32 := Scalar.addi v269 v270
  v271.toNat
def k0_dev18 (d0 : Dev nD) : Nat :=
  let c0_i32_224 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_216 : BitVec 32 := 0#32
  let v278 : BitVec 32 := Scalar.addi v2 c0_i32_216
  let c2_i32_217 : BitVec 32 := 2#32
  let v279 : BitVec 32 := Scalar.remsi v278 c2_i32_217
  let c8_i32_223 : BitVec 32 := 8#32
  let v284 : BitVec 32 := Scalar.muli v279 c8_i32_223
  let v285 : BitVec 32 := Scalar.addi c0_i32_224 v284
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_218 : BitVec 32 := 0#32
  let v280 : BitVec 32 := Scalar.addi v5 c0_i32_218
  let c2_i32_219 : BitVec 32 := 2#32
  let v281 : BitVec 32 := Scalar.remsi v280 c2_i32_219
  let c4_i32_225 : BitVec 32 := 4#32
  let v286 : BitVec 32 := Scalar.muli v281 c4_i32_225
  let v287 : BitVec 32 := Scalar.addi v285 v286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_220 : BitVec 32 := 3#32
  let v282 : BitVec 32 := Scalar.addi v8 c3_i32_220
  let c4_i32_221 : BitVec 32 := 4#32
  let v283 : BitVec 32 := Scalar.remsi v282 c4_i32_221
  let c1_i32_226 : BitVec 32 := 1#32
  let v288 : BitVec 32 := Scalar.muli v283 c1_i32_226
  let v289 : BitVec 32 := Scalar.addi v287 v288
  v289.toNat
def k0_dev19 (d0 : Dev nD) : Nat :=
  let c0_i32_237 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_229 : BitVec 32 := 0#32
  let v296 : BitVec 32 := Scalar.addi v2 c0_i32_229
  let c2_i32_230 : BitVec 32 := 2#32
  let v297 : BitVec 32 := Scalar.remsi v296 c2_i32_230
  let c8_i32_236 : BitVec 32 := 8#32
  let v302 : BitVec 32 := Scalar.muli v297 c8_i32_236
  let v303 : BitVec 32 := Scalar.addi c0_i32_237 v302
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_231 : BitVec 32 := 1#32
  let v298 : BitVec 32 := Scalar.addi v5 c1_i32_231
  let c2_i32_232 : BitVec 32 := 2#32
  let v299 : BitVec 32 := Scalar.remsi v298 c2_i32_232
  let c4_i32_238 : BitVec 32 := 4#32
  let v304 : BitVec 32 := Scalar.muli v299 c4_i32_238
  let v305 : BitVec 32 := Scalar.addi v303 v304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_233 : BitVec 32 := 0#32
  let v300 : BitVec 32 := Scalar.addi v8 c0_i32_233
  let c4_i32_234 : BitVec 32 := 4#32
  let v301 : BitVec 32 := Scalar.remsi v300 c4_i32_234
  let c1_i32_239 : BitVec 32 := 1#32
  let v306 : BitVec 32 := Scalar.muli v301 c1_i32_239
  let v307 : BitVec 32 := Scalar.addi v305 v306
  v307.toNat
def k0_dev20 (d0 : Dev nD) : Nat :=
  let c0_i32_250 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_242 : BitVec 32 := 0#32
  let v314 : BitVec 32 := Scalar.addi v2 c0_i32_242
  let c2_i32_243 : BitVec 32 := 2#32
  let v315 : BitVec 32 := Scalar.remsi v314 c2_i32_243
  let c8_i32_249 : BitVec 32 := 8#32
  let v320 : BitVec 32 := Scalar.muli v315 c8_i32_249
  let v321 : BitVec 32 := Scalar.addi c0_i32_250 v320
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_244 : BitVec 32 := 1#32
  let v316 : BitVec 32 := Scalar.addi v5 c1_i32_244
  let c2_i32_245 : BitVec 32 := 2#32
  let v317 : BitVec 32 := Scalar.remsi v316 c2_i32_245
  let c4_i32_251 : BitVec 32 := 4#32
  let v322 : BitVec 32 := Scalar.muli v317 c4_i32_251
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_246 : BitVec 32 := 1#32
  let v318 : BitVec 32 := Scalar.addi v8 c1_i32_246
  let c4_i32_247 : BitVec 32 := 4#32
  let v319 : BitVec 32 := Scalar.remsi v318 c4_i32_247
  let c1_i32_252 : BitVec 32 := 1#32
  let v324 : BitVec 32 := Scalar.muli v319 c1_i32_252
  let v325 : BitVec 32 := Scalar.addi v323 v324
  v325.toNat
def k0_dev21 (d0 : Dev nD) : Nat :=
  let c0_i32_262 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_255 : BitVec 32 := 0#32
  let v332 : BitVec 32 := Scalar.addi v2 c0_i32_255
  let c2_i32_256 : BitVec 32 := 2#32
  let v333 : BitVec 32 := Scalar.remsi v332 c2_i32_256
  let c8_i32_261 : BitVec 32 := 8#32
  let v338 : BitVec 32 := Scalar.muli v333 c8_i32_261
  let v339 : BitVec 32 := Scalar.addi c0_i32_262 v338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_257 : BitVec 32 := 1#32
  let v334 : BitVec 32 := Scalar.addi v5 c1_i32_257
  let c2_i32_258 : BitVec 32 := 2#32
  let v335 : BitVec 32 := Scalar.remsi v334 c2_i32_258
  let c4_i32_263 : BitVec 32 := 4#32
  let v340 : BitVec 32 := Scalar.muli v335 c4_i32_263
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_259 : BitVec 32 := 2#32
  let v336 : BitVec 32 := Scalar.addi v8 c2_i32_259
  let c4_i32_260 : BitVec 32 := 4#32
  let v337 : BitVec 32 := Scalar.remsi v336 c4_i32_260
  let c1_i32_264 : BitVec 32 := 1#32
  let v342 : BitVec 32 := Scalar.muli v337 c1_i32_264
  let v343 : BitVec 32 := Scalar.addi v341 v342
  v343.toNat
def k0_dev22 (d0 : Dev nD) : Nat :=
  let c0_i32_274 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_267 : BitVec 32 := 0#32
  let v350 : BitVec 32 := Scalar.addi v2 c0_i32_267
  let c2_i32_268 : BitVec 32 := 2#32
  let v351 : BitVec 32 := Scalar.remsi v350 c2_i32_268
  let c8_i32_273 : BitVec 32 := 8#32
  let v356 : BitVec 32 := Scalar.muli v351 c8_i32_273
  let v357 : BitVec 32 := Scalar.addi c0_i32_274 v356
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_269 : BitVec 32 := 1#32
  let v352 : BitVec 32 := Scalar.addi v5 c1_i32_269
  let c2_i32_270 : BitVec 32 := 2#32
  let v353 : BitVec 32 := Scalar.remsi v352 c2_i32_270
  let c4_i32_275 : BitVec 32 := 4#32
  let v358 : BitVec 32 := Scalar.muli v353 c4_i32_275
  let v359 : BitVec 32 := Scalar.addi v357 v358
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_271 : BitVec 32 := 3#32
  let v354 : BitVec 32 := Scalar.addi v8 c3_i32_271
  let c4_i32_272 : BitVec 32 := 4#32
  let v355 : BitVec 32 := Scalar.remsi v354 c4_i32_272
  let c1_i32_276 : BitVec 32 := 1#32
  let v360 : BitVec 32 := Scalar.muli v355 c1_i32_276
  let v361 : BitVec 32 := Scalar.addi v359 v360
  v361.toNat
def k0_dev23 (d0 : Dev nD) : Nat :=
  let c0_i32_286 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_279 : BitVec 32 := 1#32
  let v368 : BitVec 32 := Scalar.addi v2 c1_i32_279
  let c2_i32_280 : BitVec 32 := 2#32
  let v369 : BitVec 32 := Scalar.remsi v368 c2_i32_280
  let c8_i32_285 : BitVec 32 := 8#32
  let v374 : BitVec 32 := Scalar.muli v369 c8_i32_285
  let v375 : BitVec 32 := Scalar.addi c0_i32_286 v374
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_281 : BitVec 32 := 0#32
  let v370 : BitVec 32 := Scalar.addi v5 c0_i32_281
  let c2_i32_282 : BitVec 32 := 2#32
  let v371 : BitVec 32 := Scalar.remsi v370 c2_i32_282
  let c4_i32_287 : BitVec 32 := 4#32
  let v376 : BitVec 32 := Scalar.muli v371 c4_i32_287
  let v377 : BitVec 32 := Scalar.addi v375 v376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_283 : BitVec 32 := 0#32
  let v372 : BitVec 32 := Scalar.addi v8 c0_i32_283
  let c4_i32_284 : BitVec 32 := 4#32
  let v373 : BitVec 32 := Scalar.remsi v372 c4_i32_284
  let c1_i32_288 : BitVec 32 := 1#32
  let v378 : BitVec 32 := Scalar.muli v373 c1_i32_288
  let v379 : BitVec 32 := Scalar.addi v377 v378
  v379.toNat
def k0_dev24 (d0 : Dev nD) : Nat :=
  let c0_i32_299 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_291 : BitVec 32 := 1#32
  let v386 : BitVec 32 := Scalar.addi v2 c1_i32_291
  let c2_i32_292 : BitVec 32 := 2#32
  let v387 : BitVec 32 := Scalar.remsi v386 c2_i32_292
  let c8_i32_298 : BitVec 32 := 8#32
  let v392 : BitVec 32 := Scalar.muli v387 c8_i32_298
  let v393 : BitVec 32 := Scalar.addi c0_i32_299 v392
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_293 : BitVec 32 := 0#32
  let v388 : BitVec 32 := Scalar.addi v5 c0_i32_293
  let c2_i32_294 : BitVec 32 := 2#32
  let v389 : BitVec 32 := Scalar.remsi v388 c2_i32_294
  let c4_i32_300 : BitVec 32 := 4#32
  let v394 : BitVec 32 := Scalar.muli v389 c4_i32_300
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_295 : BitVec 32 := 1#32
  let v390 : BitVec 32 := Scalar.addi v8 c1_i32_295
  let c4_i32_296 : BitVec 32 := 4#32
  let v391 : BitVec 32 := Scalar.remsi v390 c4_i32_296
  let c1_i32_301 : BitVec 32 := 1#32
  let v396 : BitVec 32 := Scalar.muli v391 c1_i32_301
  let v397 : BitVec 32 := Scalar.addi v395 v396
  v397.toNat
def k0_dev25 (d0 : Dev nD) : Nat :=
  let c0_i32_311 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_304 : BitVec 32 := 1#32
  let v404 : BitVec 32 := Scalar.addi v2 c1_i32_304
  let c2_i32_305 : BitVec 32 := 2#32
  let v405 : BitVec 32 := Scalar.remsi v404 c2_i32_305
  let c8_i32_310 : BitVec 32 := 8#32
  let v410 : BitVec 32 := Scalar.muli v405 c8_i32_310
  let v411 : BitVec 32 := Scalar.addi c0_i32_311 v410
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_306 : BitVec 32 := 0#32
  let v406 : BitVec 32 := Scalar.addi v5 c0_i32_306
  let c2_i32_307 : BitVec 32 := 2#32
  let v407 : BitVec 32 := Scalar.remsi v406 c2_i32_307
  let c4_i32_312 : BitVec 32 := 4#32
  let v412 : BitVec 32 := Scalar.muli v407 c4_i32_312
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_308 : BitVec 32 := 2#32
  let v408 : BitVec 32 := Scalar.addi v8 c2_i32_308
  let c4_i32_309 : BitVec 32 := 4#32
  let v409 : BitVec 32 := Scalar.remsi v408 c4_i32_309
  let c1_i32_313 : BitVec 32 := 1#32
  let v414 : BitVec 32 := Scalar.muli v409 c1_i32_313
  let v415 : BitVec 32 := Scalar.addi v413 v414
  v415.toNat
def k0_dev26 (d0 : Dev nD) : Nat :=
  let c0_i32_323 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_316 : BitVec 32 := 1#32
  let v422 : BitVec 32 := Scalar.addi v2 c1_i32_316
  let c2_i32_317 : BitVec 32 := 2#32
  let v423 : BitVec 32 := Scalar.remsi v422 c2_i32_317
  let c8_i32_322 : BitVec 32 := 8#32
  let v428 : BitVec 32 := Scalar.muli v423 c8_i32_322
  let v429 : BitVec 32 := Scalar.addi c0_i32_323 v428
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32_318 : BitVec 32 := 0#32
  let v424 : BitVec 32 := Scalar.addi v5 c0_i32_318
  let c2_i32_319 : BitVec 32 := 2#32
  let v425 : BitVec 32 := Scalar.remsi v424 c2_i32_319
  let c4_i32_324 : BitVec 32 := 4#32
  let v430 : BitVec 32 := Scalar.muli v425 c4_i32_324
  let v431 : BitVec 32 := Scalar.addi v429 v430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_320 : BitVec 32 := 3#32
  let v426 : BitVec 32 := Scalar.addi v8 c3_i32_320
  let c4_i32_321 : BitVec 32 := 4#32
  let v427 : BitVec 32 := Scalar.remsi v426 c4_i32_321
  let c1_i32_325 : BitVec 32 := 1#32
  let v432 : BitVec 32 := Scalar.muli v427 c1_i32_325
  let v433 : BitVec 32 := Scalar.addi v431 v432
  v433.toNat
def k0_dev27 (d0 : Dev nD) : Nat :=
  let c0_i32_335 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_328 : BitVec 32 := 1#32
  let v440 : BitVec 32 := Scalar.addi v2 c1_i32_328
  let c2_i32_329 : BitVec 32 := 2#32
  let v441 : BitVec 32 := Scalar.remsi v440 c2_i32_329
  let c8_i32_334 : BitVec 32 := 8#32
  let v446 : BitVec 32 := Scalar.muli v441 c8_i32_334
  let v447 : BitVec 32 := Scalar.addi c0_i32_335 v446
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_330 : BitVec 32 := 1#32
  let v442 : BitVec 32 := Scalar.addi v5 c1_i32_330
  let c2_i32_331 : BitVec 32 := 2#32
  let v443 : BitVec 32 := Scalar.remsi v442 c2_i32_331
  let c4_i32_336 : BitVec 32 := 4#32
  let v448 : BitVec 32 := Scalar.muli v443 c4_i32_336
  let v449 : BitVec 32 := Scalar.addi v447 v448
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_332 : BitVec 32 := 0#32
  let v444 : BitVec 32 := Scalar.addi v8 c0_i32_332
  let c4_i32_333 : BitVec 32 := 4#32
  let v445 : BitVec 32 := Scalar.remsi v444 c4_i32_333
  let c1_i32_337 : BitVec 32 := 1#32
  let v450 : BitVec 32 := Scalar.muli v445 c1_i32_337
  let v451 : BitVec 32 := Scalar.addi v449 v450
  v451.toNat
def k0_dev28 (d0 : Dev nD) : Nat :=
  let c0_i32_347 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_340 : BitVec 32 := 1#32
  let v458 : BitVec 32 := Scalar.addi v2 c1_i32_340
  let c2_i32_341 : BitVec 32 := 2#32
  let v459 : BitVec 32 := Scalar.remsi v458 c2_i32_341
  let c8_i32_346 : BitVec 32 := 8#32
  let v464 : BitVec 32 := Scalar.muli v459 c8_i32_346
  let v465 : BitVec 32 := Scalar.addi c0_i32_347 v464
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_342 : BitVec 32 := 1#32
  let v460 : BitVec 32 := Scalar.addi v5 c1_i32_342
  let c2_i32_343 : BitVec 32 := 2#32
  let v461 : BitVec 32 := Scalar.remsi v460 c2_i32_343
  let c4_i32_348 : BitVec 32 := 4#32
  let v466 : BitVec 32 := Scalar.muli v461 c4_i32_348
  let v467 : BitVec 32 := Scalar.addi v465 v466
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_344 : BitVec 32 := 1#32
  let v462 : BitVec 32 := Scalar.addi v8 c1_i32_344
  let c4_i32_345 : BitVec 32 := 4#32
  let v463 : BitVec 32 := Scalar.remsi v462 c4_i32_345
  let c1_i32_349 : BitVec 32 := 1#32
  let v468 : BitVec 32 := Scalar.muli v463 c1_i32_349
  let v469 : BitVec 32 := Scalar.addi v467 v468
  v469.toNat
def k0_dev29 (d0 : Dev nD) : Nat :=
  let c0_i32_359 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_352 : BitVec 32 := 1#32
  let v476 : BitVec 32 := Scalar.addi v2 c1_i32_352
  let c2_i32_353 : BitVec 32 := 2#32
  let v477 : BitVec 32 := Scalar.remsi v476 c2_i32_353
  let c8_i32_358 : BitVec 32 := 8#32
  let v482 : BitVec 32 := Scalar.muli v477 c8_i32_358
  let v483 : BitVec 32 := Scalar.addi c0_i32_359 v482
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_354 : BitVec 32 := 1#32
  let v478 : BitVec 32 := Scalar.addi v5 c1_i32_354
  let c2_i32_355 : BitVec 32 := 2#32
  let v479 : BitVec 32 := Scalar.remsi v478 c2_i32_355
  let c4_i32_360 : BitVec 32 := 4#32
  let v484 : BitVec 32 := Scalar.muli v479 c4_i32_360
  let v485 : BitVec 32 := Scalar.addi v483 v484
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_356 : BitVec 32 := 2#32
  let v480 : BitVec 32 := Scalar.addi v8 c2_i32_356
  let c4_i32_357 : BitVec 32 := 4#32
  let v481 : BitVec 32 := Scalar.remsi v480 c4_i32_357
  let c1_i32_361 : BitVec 32 := 1#32
  let v486 : BitVec 32 := Scalar.muli v481 c1_i32_361
  let v487 : BitVec 32 := Scalar.addi v485 v486
  v487.toNat
def k0_dev30 (d0 : Dev nD) : Nat :=
  let c0_i32_371 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_364 : BitVec 32 := 1#32
  let v494 : BitVec 32 := Scalar.addi v2 c1_i32_364
  let c2_i32_365 : BitVec 32 := 2#32
  let v495 : BitVec 32 := Scalar.remsi v494 c2_i32_365
  let c8_i32_370 : BitVec 32 := 8#32
  let v500 : BitVec 32 := Scalar.muli v495 c8_i32_370
  let v501 : BitVec 32 := Scalar.addi c0_i32_371 v500
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1_i32_366 : BitVec 32 := 1#32
  let v496 : BitVec 32 := Scalar.addi v5 c1_i32_366
  let c2_i32_367 : BitVec 32 := 2#32
  let v497 : BitVec 32 := Scalar.remsi v496 c2_i32_367
  let c4_i32_372 : BitVec 32 := 4#32
  let v502 : BitVec 32 := Scalar.muli v497 c4_i32_372
  let v503 : BitVec 32 := Scalar.addi v501 v502
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_368 : BitVec 32 := 3#32
  let v498 : BitVec 32 := Scalar.addi v8 c3_i32_368
  let c4_i32_369 : BitVec 32 := 4#32
  let v499 : BitVec 32 := Scalar.remsi v498 c4_i32_369
  let c1_i32_373 : BitVec 32 := 1#32
  let v504 : BitVec 32 := Scalar.muli v499 c1_i32_373
  let v505 : BitVec 32 := Scalar.addi v503 v504
  v505.toNat
abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2x2048 : Shape := ⟨2, ![2, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .i32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Program.lean ====
/- The kernel's body as a program over lists: fifteen signals, fifteen copies, sixteen and fifteen waits, each
   written once for a symbolic peer or slot, and the statement that the printed body is that program. -/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.DgammaProof

open Cert.KernelIdeal Cert.KernelIdeal.Gen
open Idealize.ShloMosaic Idealize.ShloMosaic.TcCoe
open Idealize.SL.Sem

variable {F : FTy → Type} [FloatOps F]

/-! ## Buffers and semaphores -/

abbrev xArr : Memref sig .tc .hbm S2048x2048 .f32 := Memref.whole main_arg0
abbrev dyArr : Memref sig .tc .hbm S2048x2048 .f32 := Memref.whole main_arg1
abbrev outM : Memref sig .tc .vmem S2x2048 .f32 := Memref.whole cc0_stg0_0
abbrev xvM : Memref sig .tc .vmem S256x2048 .f32 := Memref.whole cc0_scratch0
abbrev dyvM : Memref sig .tc .vmem S256x2048 .f32 := Memref.whole cc0_scratch1
abbrev accM : Memref sig .tc .vmem S2x2048 .bf16 := Memref.whole cc0_scratch2
abbrev gatM : Memref sig .tc .vmem S16x2x2048 .bf16 := Memref.whole cc0_scratch3

/-- Device `c`'s 256 rows of its block of `x`, and of `dy`. -/
abbrev xRows (c : Dev nD) : Memref sig .tc .hbm S256x2048 .f32 :=
  xArr.slice (Rect.unit (s := S2048x2048) (k0_off1 c) S256x2048.size (k0_off1_inb c)) (fun _ => rfl)
abbrev dyRows (c : Dev nD) : Memref sig .tc .hbm S256x2048 .f32 :=
  dyArr.slice (Rect.unit (s := S2048x2048) (k0_off1 c) S256x2048.size (k0_off1_inb c)) (fun _ => rfl)

theorem slot_inb (s : Fin 16) : ∀ a, (![s.val, 0, 0] : Fin 3 → Nat) a + S1x2x2048.size a ≤ S16x2x2048.size a := by
  revert s; decide
theorem slot_words (s : Fin 16) :
    (Rect.unit (s := S16x2x2048) ![s.val, 0, 0] S1x2x2048.size (slot_inb s)).WholeWords (EltTy.packing .bf16) := by
  revert s; decide
theorem sem2_inb (i : Fin 2) : ∀ a, (![i.val] : Fin 1 → Nat) a + S1.size a ≤ S2.size a := by revert i; decide
theorem sem15_inb (i : Fin 15) : ∀ a, (![i.val] : Fin 1 → Nat) a + S1.size a ≤ S15.size a := by revert i; decide
theorem sem16_inb (i : Fin 16) : ∀ a, (![i.val] : Fin 1 → Nat) a + S1.size a ≤ S16.size a := by revert i; decide

/-- Slot `s` of the buffer the devices' partial sums are gathered in. -/
abbrev slot (s : Fin 16) : Memref sig .tc .vmem S2x2048 .bf16 :=
  (gatM.slice (Rect.unit (s := S16x2x2048) ![s.val, 0, 0] S1x2x2048.size (slot_inb s)) (fun _ => rfl)).squeeze S2x2048 squeezes_S1x2x2048_S2x2048
/-- The same slot named by the device that writes it, as the program computes its offset. -/
abbrev mySlot (c : Dev nD) : Memref sig .tc .vmem S2x2048 .bf16 :=
  (gatM.slice (Rect.unit (s := S16x2x2048) (k0_off3 c) S1x2x2048.size (k0_off3_inb c)) (fun _ => rfl)).squeeze S2x2048 squeezes_S1x2x2048_S2x2048

abbrev inS (i : Fin 2) : DmaSem sig := ((cc0_scratch4.slice (Rect.unit (s := S2) ![i.val] S1.size (sem2_inb i))).squeeze S_ squeezes_S1_S_).sem
abbrev sendS (k : Fin 15) : DmaSem sig := ((cc0_scratch5.slice (Rect.unit (s := S15) ![k.val] S1.size (sem15_inb k))).squeeze S_ squeezes_S1_S_).sem
abbrev recvS (s : Fin 16) : DmaSem sig := ((cc0_scratch6.slice (Rect.unit (s := S16) ![s.val] S1.size (sem16_inb s))).squeeze S_ squeezes_S1_S_).sem
abbrev myRecvS (c : Dev nD) : DmaSem sig := ((cc0_scratch6.slice (Rect.unit (s := S16) (k0_off2 c) S1.size (k0_off2_inb c))).squeeze S_ squeezes_S1_S_).sem
abbrev barS : Sem sig := (SemArray.scalar (sig.barrier 0 rfl) : Sems sig S_).sem

/-! ## Peers -/

/-- The device the `k`-th signal goes to, as the program computes it; -/
def sigDev (c : Dev nD) : Fin 15 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩
  | 7 => ⟨k0_dev8 c, k0_dev8_lt c⟩
  | 8 => ⟨k0_dev9 c, k0_dev9_lt c⟩
  | 9 => ⟨k0_dev10 c, k0_dev10_lt c⟩
  | 10 => ⟨k0_dev11 c, k0_dev11_lt c⟩
  | 11 => ⟨k0_dev12 c, k0_dev12_lt c⟩
  | 12 => ⟨k0_dev13 c, k0_dev13_lt c⟩
  | 13 => ⟨k0_dev14 c, k0_dev14_lt c⟩
  | 14 => ⟨k0_dev15 c, k0_dev15_lt c⟩
/-- the device the `k`-th copy goes to. -/
def sendDev (c : Dev nD) : Fin 15 → Dev nD
  | 0 => ⟨k0_dev16 c, k0_dev16_lt c⟩
  | 1 => ⟨k0_dev17 c, k0_dev17_lt c⟩
  | 2 => ⟨k0_dev18 c, k0_dev18_lt c⟩
  | 3 => ⟨k0_dev19 c, k0_dev19_lt c⟩
  | 4 => ⟨k0_dev20 c, k0_dev20_lt c⟩
  | 5 => ⟨k0_dev21 c, k0_dev21_lt c⟩
  | 6 => ⟨k0_dev22 c, k0_dev22_lt c⟩
  | 7 => ⟨k0_dev23 c, k0_dev23_lt c⟩
  | 8 => ⟨k0_dev24 c, k0_dev24_lt c⟩
  | 9 => ⟨k0_dev25 c, k0_dev25_lt c⟩
  | 10 => ⟨k0_dev26 c, k0_dev26_lt c⟩
  | 11 => ⟨k0_dev27 c, k0_dev27_lt c⟩
  | 12 => ⟨k0_dev28 c, k0_dev28_lt c⟩
  | 13 => ⟨k0_dev29 c, k0_dev29_lt c⟩
  | 14 => ⟨k0_dev30 c, k0_dev30_lt c⟩

/-! ## The program -/

abbrev PG (F : FTy → Type) [FloatOps F] : Type 1 := Prog (TpuEff nD τ sig (Elt F) Λ₀ .tc) PUnit

/-- A signal of one unit to the barrier semaphore of each listed peer. -/
def signals (c : Dev nD) : List (Fin 15) → PG F → PG F
  | [], K => K
  | k :: ks, K => .op (.semSignal (Dev.tc (sigDev c k)) barS 1) fun _ => signals c ks K

/-- A copy of the partial sums into this device's slot on each listed peer. -/
def sends (c : Dev nD) : List (Fin 15) → PG F → PG F
  | [], K => K
  | k :: ks, K => .op (.enqueueDma accM (.remote (Dev.tc (sendDev c k)) (mySlot c) (.dma (sendS k))) (.dma (myRecvS c))
      (Memref.isWhole_whole _).wordExact (((Memref.isWhole_whole _).wordExact_slice rfl _ (k0_off3_wordsbf16 c)).reshape _ _)
      ⟨⟨rfl, Or.inl rfl⟩, trivial⟩) fun _ => sends c ks K

/-- A wait for the copy arriving in each listed slot. -/
def arrivals : List (Fin 16) → PG F → PG F
  | [], K => K
  | s :: ss, K => .op (.waitDma2 (recvS s) accM (slot s)
      (Memref.isWhole_whole _).wordExact (((Memref.isWhole_whole _).wordExact_slice rfl _ (slot_words s)).reshape _ _)) fun _ => arrivals ss K

/-- A wait for each listed copy to have left. -/
def departures (c : Dev nD) : List (Fin 15) → PG F → PG F
  | [], K => K
  | k :: ks, K => .op (.waitDma2 (sendS k) (mySlot c) accM
      (((Memref.isWhole_whole _).wordExact_slice rfl _ (k0_off3_wordsbf16 c)).reshape _ _) (Memref.isWhole_whole _).wordExact) fun _ => departures c ks K

def l15 : List (Fin 15) := [0, 1, 2, 3, 4, 5, 6, 7, 8, 9, 10, 11, 12, 13, 14]
def l16 : List (Fin 16) := [0, 1, 2, 3, 4, 5, 6, 7, 8, 9, 10, 11, 12, 13, 14, 15]

abbrev rRows : Rect S256x2048 := Rect.unit (s := S256x2048) ![0, 0] S256x2048.size inb_S256x2048_S256x2048_0_0
abbrev rAcc : Rect S2x2048 := Rect.unit (s := S2x2048) ![0, 0] S2x2048.size inb_S2x2048_S2x2048_0_0
abbrev rGat : Rect S16x2x2048 := Rect.unit (s := S16x2x2048) ![0, 0, 0] S16x2x2048.size inb_S16x2x2048_S16x2x2048_0_0_0

/-- After the arrivals: the gathered sums are added up and stored, then the departures are waited for. -/
def prog3 (c : Dev nD) : PG F :=
  .op (.load gatM rGat.toLoadRect (View.loadsAt_vmem h_S16x2x2048)) fun g =>
  .op (.load outM rAcc.toLoadRect (View.loadsAt_vmem h_S2x2048)) fun _ =>
  .op (.store outM rAcc (k0_pay4 g) Finset.univ (View.stores_vmem_bits_univ h_S2x2048 rfl) (.inl rfl)) fun _ =>
  departures c l15 (.ret ⟨⟩)

/-- From the loads on: the two rows of partial sums, the device's own slot, the barrier, the copies, the arrivals. -/
def prog2 (c : Dev nD) : PG F :=
  .op (.load xvM rRows.toLoadRect (View.loadsAt_vmem h_S256x2048)) fun x =>
  .op (.load dyvM rRows.toLoadRect (View.loadsAt_vmem h_S256x2048)) fun dy =>
  .op (.load accM (Rect.unit (s := S2x2048) ![0, 0] S1x2048.size inb_S2x2048_S1x2048_0_0).toLoadRect (View.loadsAt_vmem h_S1x2048)) fun _ =>
  .op (.load accM rAcc.toLoadRect (View.loadsAt_vmem h_S2x2048)) fun old =>
  .op (.store accM rAcc (updateSlice old (k0_pay2 x dy (k0_pay1 x)) ![0, 0] slices_S2x2048_S1x2048_0_0) Finset.univ
    (View.stores_vmem h_S2x2048 ((Memref.isWhole_whole _).storeExact_slice rfl _ packedbf16_S2x2048_S2x2048_0_0) (fun _ => rfl)) (.inl rfl)) fun _ =>
  .op (.load accM (Rect.unit (s := S2x2048) ![1, 0] S1x2048.size inb_S2x2048_S1x2048_1_0).toLoadRect (View.loadsAt_vmem h_S1x2048)) fun _ =>
  .op (.load accM rAcc.toLoadRect (View.loadsAt_vmem h_S2x2048)) fun old =>
  .op (.store accM rAcc (updateSlice old (k0_pay3 dy) ![1, 0] slices_S2x2048_S1x2048_1_0) Finset.univ
    (View.stores_vmem h_S2x2048 ((Memref.isWhole_whole _).storeExact_slice rfl _ packedbf16_S2x2048_S2x2048_0_0) (fun _ => rfl)) (.inl rfl)) fun _ =>
  .op (.enqueueDma accM (.here (mySlot c)) (.dma (myRecvS c)) (Memref.isWhole_whole _).wordExact
    (((Memref.isWhole_whole _).wordExact_slice rfl _ (k0_off3_wordsbf16 c)).reshape _ _) ⟨Or.inl rfl, trivial⟩) fun _ =>
  .op (.semWait barS 15) fun _ =>
  sends c l15 (arrivals l16 (prog3 c))

/-- The whole body of device `c`. -/
def prog (c : Dev nD) : PG F :=
  .op (.enqueueDma (xRows c) (.here xvM) (.dma (inS 0)) (View.wordExact_bits rfl) (Memref.isWhole_whole _).wordExact ⟨Or.inl rfl, trivial⟩) fun _ =>
  .op (.enqueueDma (dyRows c) (.here dyvM) (.dma (inS 1)) (View.wordExact_bits rfl) (Memref.isWhole_whole _).wordExact ⟨Or.inl rfl, trivial⟩) fun _ =>
  signals c l15 <|
  .op (.waitDma2 (inS 0) (xRows c) xvM (View.wordExact_bits rfl) (Memref.isWhole_whole _).wordExact) fun _ =>
  .op (.waitDma2 (inS 1) (dyRows c) dyvM (View.wordExact_bits rfl) (Memref.isWhole_whole _).wordExact) fun _ =>
  prog2 c

set_option maxRecDepth 65536 in
set_option maxHeartbeats 2000000 in
/-- The printed body reads its device and runs `prog` at it. -/
theorem body_eq :
    cc0_body (F := F) xArr (Memref.isWhole_whole _) dyArr (Memref.isWhole_whole _) outM (Memref.isWhole_whole _) xvM (Memref.isWhole_whole _)
      dyvM (Memref.isWhole_whole _) accM (Memref.isWhole_whole _) gatM (Memref.isWhole_whole _) cc0_scratch4 cc0_scratch5 cc0_scratch6
      = .op .deviceId prog := by
  chain_rfl

end Cert.DgammaProof

end
-- ==== Proof.Slots.lean ====
/- The buffers' contents and how the gathering buffer falls into its sixteen slots: the rows each device reads, its
   two partial sums, the gathered array, and what a copy into a slot leaves there. -/
module

public import proofs.«01_k».proof.Proof.Program
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.ValueLayout

@[expose] public section

noncomputable section

namespace Cert.DgammaProof

open Cert.KernelIdeal Cert.KernelIdeal.Gen
open Idealize.ShloMosaic Idealize.ShloMosaic.TcCoe
open Idealize.SL.Sem
open Idealize.ShloMosaic.ValueIdx

variable {F : FTy → Type} [FloatOps F]
variable (m : (ℓ : Loc nD τ sig) → Buf (Elt F) ℓ)

/-! ## Contents -/

/-- Device `c`'s 256 rows of `x` and of `dy`. -/
def xv (c : Dev nD) : S256x2048.Idx → Elt F .f32 := (xRows c).view.read (Elt F) (m ((c.tc : Thread nD τ).loc main_arg0))
def dyv (c : Dev nD) : S256x2048.Idx → Elt F .f32 := (dyRows c).view.read (Elt F) (m ((c.tc : Thread nD τ).loc main_arg1))

/-- The two rows of partial sums a device computes from its rows of `x` and `dy`. -/
def partials (x dy : S256x2048.Idx → Elt F .f32) : S2x2048.Idx → Elt F .bf16 := fun i =>
  if (i 0).val = 0 then k0_pay2 x dy (k0_pay1 x) (ix2 (0 : Fin 1) (i 1)) else k0_pay3 dy (ix2 (0 : Fin 1) (i 1))
def acc (c : Dev nD) : S2x2048.Idx → Elt F .bf16 := partials (xv m c) (dyv m c)

/-- The gathered array: at slot `s` the partial sums of device `s`. -/
def gat : S16x2x2048.Idx → Elt F .bf16 := fun i => acc m (i 0) (ix2 (i 1) (i 2))

/-- The result: the gathered partial sums added up. It does not depend on the device. -/
def outv : S2x2048.Idx → Elt F .f32 := k0_pay4 (gat m)

/-- Writing the first row and then the second over anything leaves the two rows. -/
theorem partials_eq (x dy : S256x2048.Idx → Elt F .f32) (old : S2x2048.Idx → Elt F .bf16) :
    updateSlice (updateSlice old (k0_pay2 x dy (k0_pay1 x)) ![0, 0] slices_S2x2048_S1x2048_0_0) (k0_pay3 dy) ![1, 0] slices_S2x2048_S1x2048_1_0
      = partials x dy := by
  funext i
  have h0 : (i 0).val < 2 := (i 0).isLt
  have h1 : (i 1).val < 2048 := (i 1).isLt
  unfold partials updateSlice
  by_cases h : (i 0).val = 0
  · rw [dif_neg (fun hh => by have := (hh 0).1; simp at this; omega), dif_pos (fun a => by
      match a with
      | ⟨0, _⟩ => exact ⟨Nat.zero_le _, by show (i 0).val < 0 + 1; omega⟩
      | ⟨1, _⟩ => exact ⟨Nat.zero_le _, by show (i 1).val < 0 + 2048; omega⟩), if_pos h]
    refine congrArg _ (funext fun b => Fin.ext ?_)
    match b with
    | ⟨0, _⟩ => show (i 0).val - 0 = 0; omega
    | ⟨1, _⟩ => show (i 1).val - 0 = (i 1).val; omega
  · rw [dif_pos (fun a => by
      match a with
      | ⟨0, _⟩ => exact ⟨by show 1 ≤ (i 0).val; omega, by show (i 0).val < 1 + 1; omega⟩
      | ⟨1, _⟩ => exact ⟨Nat.zero_le _, by show (i 1).val < 0 + 2048; omega⟩), if_neg h]
    refine congrArg _ (funext fun b => Fin.ext ?_)
    match b with
    | ⟨0, _⟩ => show (i 0).val - 1 = 0; omega
    | ⟨1, _⟩ => show (i 1).val - 0 = (i 1).val; omega

/-! ## Slots -/

theorem off3 (c : Dev nD) : k0_off3 c = ![c.val, 0, 0] := by revert c; decide
theorem off2 (c : Dev nD) : k0_off2 c = ![c.val] := by revert c; decide

theorem mySlot_eq (c : Dev nD) : mySlot c = slot c := by
  unfold mySlot slot
  congr 2
  simp only [off3]

theorem myRecvS_eq (c : Dev nD) : myRecvS c = recvS c := by
  revert c; decide

abbrev slotSet (s : Fin 16) : Finset S16x2x2048.Idx := (slot s).view.set

/-- The elements of slot `s`: those whose first coordinate is `s`. -/
theorem mem_slot (s : Fin 16) (i : S16x2x2048.Idx) : i ∈ slotSet s ↔ (i 0).val = s.val := by
  have hs : slotSet s = (Rect.unit (s := S16x2x2048) ![s.val, 0, 0] S1x2x2048.size (slot_inb s)).set :=
    (View.set_reshape _ _).trans (View.set_slice_whole _ _)
  rw [hs, Rect.mem_set_unit]
  have h1 : (i 1).val < 2 := (i 1).isLt
  have h2 : (i 2).val < 2048 := (i 2).isLt
  constructor
  · intro h
    have := h 0
    have ha : s.val ≤ (i 0).val ∧ (i 0).val < s.val + 1 := this
    omega
  · intro h a
    match a with
    | ⟨0, _⟩ => exact ⟨by show s.val ≤ (i 0).val; omega, by show (i 0).val < s.val + 1; omega⟩
    | ⟨1, _⟩ => exact ⟨Nat.zero_le _, by show (i 1).val < 0 + 2; omega⟩
    | ⟨2, _⟩ => exact ⟨Nat.zero_le _, by show (i 2).val < 0 + 2048; omega⟩

theorem slot_disjoint (s s' : Fin 16) (h : s ≠ s') : Disjoint (slotSet s) (slotSet s') :=
  Finset.disjoint_left.mpr fun i hi hi' => h (Fin.ext (((mem_slot s i).mp hi).symm.trans ((mem_slot s' i).mp hi')))

theorem slot_cover : (Finset.univ.biUnion slotSet) = Finset.univ :=
  Finset.eq_univ_of_forall fun i => Finset.mem_biUnion.mpr ⟨⟨(i 0).val, (i 0).isLt⟩, Finset.mem_univ _, (mem_slot _ i).mpr rfl⟩

/-- Slot `s` of an array, read. -/
theorem slot_read (s : Fin 16) (f : S16x2x2048.Idx → Elt F .bf16) (i : S2x2048.Idx) :
    (slot s).view.read (Elt F) f i = f (ix3 s (i 0) (i 1)) := by
  have h := congrFun (Memref.read_squeeze_slice (Val := Elt F) gatM (Rect.unit (s := S16x2x2048) ![s.val, 0, 0] S1x2x2048.size (slot_inb s)) (fun _ => rfl)
    squeezes_S1x2x2048_S2x2048 (show S1x2x2048.ShapeCasts S2x2048 by decide) f) i
  refine h.trans ?_
  rw [eq_ix2 i]
  refine (shapeCast_1ab_ab_apply _ _ _ _).trans ?_
  show f _ = f _
  refine congrArg f (funext fun a => Fin.ext ?_)
  match a with
  | ⟨0, _⟩ => show s.val + 1 * 0 = s.val; omega
  | ⟨1, _⟩ => show 0 + 1 * (i 0).val = (i 0).val; omega
  | ⟨2, _⟩ => show 0 + 1 * (i 1).val = (i 1).val; omega

theorem slot_read_gat (s : Fin 16) : (slot s).view.read (Elt F) (gat m) = acc m s := by
  funext i; rw [slot_read]; unfold gat; exact congrArg _ (eq_ix2 i).symm

/-- A copy of device `s`'s partial sums into slot `s` leaves there what the gathered array has there. -/
theorem slot_write (s : Fin 16) (fd : S16x2x2048.Idx → Elt F .bf16) (i : S16x2x2048.Idx) (hi : i ∈ slotSet s) :
    (slot s).view.write (Elt F) fd (acc m s) Finset.univ i = gat m i := by
  obtain ⟨j, rfl⟩ : ∃ j, (slot s).view.emb j = i := by
    have := hi; unfold slotSet View.set at this; simpa using this
  rw [View.write_emb_of_mem _ _ (Finset.mem_univ _), ← slot_read_gat m s]
  rfl

end Cert.DgammaProof

end
-- ==== Proof.Protocol.lean ====
/- The protocol between the sixteen devices. Every semaphore is used for one round.
   The barrier of a device receives one unit from each of the other fifteen; with its unit a device hands over the slot,
   in its own gathering buffer, that the receiver is to fill. An incoming-copy cell receives the copied rows. A send
   cell returns the share of the partial sums the copy read. A receive cell `s` hands over slot `s`, filled by device
   `s`. A device at its barrier still owes its copies, so receive cells stand above barriers. -/
module

public import proofs.«01_k».proof.Proof.Slots
public import Idealize.ShloMosaic.Lib.Transfers
public import Idealize.ShloMosaic.Lib.Rounds.Family

@[expose] public section

noncomputable section

namespace Cert.DgammaProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The kernel's own semaphores of a device: two for its local copies, fifteen for its sends, sixteen for its arrivals; -/
abbrev Own : Type := Fin 2 ⊕ Fin 15 ⊕ Fin 16
/-- and with them the barrier. -/
abbrev Kd : Type := Option Own
abbrev kBar : Kd := none
abbrev kIn (i : Fin 2) : Kd := some (.inl i)
abbrev kSnd (k : Fin 15) : Kd := some (.inr (.inl k))
abbrev kRcv (s : Fin 16) : Kd := some (.inr (.inr s))

abbrev osem : Own → SemLoc sig
  | .inl i => .dma (inS i)
  | .inr (.inl k) => .dma (sendS k)
  | .inr (.inr s) => .dma (recvS s)
abbrev semOf : Kd → SemLoc sig
  | none => .reg barS
  | some o => osem o

theorem osem_injective : Function.Injective osem := by decide +kernel
theorem semOf_injective : Function.Injective semOf
  | none, none, _ => rfl
  | none, some (.inl _), h => by cases h
  | none, some (.inr (.inl _)), h => by cases h
  | none, some (.inr (.inr _)), h => by cases h
  | some (.inl _), none, h => by cases h
  | some (.inr (.inl _)), none, h => by cases h
  | some (.inr (.inr _)), none, h => by cases h
  | some a, some b, h => congrArg some (osem_injective h)

open Classical in
/-- Which of the protocol's cells a semaphore is, if any. -/
def kindOf (g : SemLoc sig) : Option Kd := if h : ∃ k, semOf k = g then some h.choose else none

theorem kindOf_semOf (k : Kd) : kindOf (semOf k) = some k := by
  have h : ∃ k', semOf k' = semOf k := ⟨k, rfl⟩
  unfold kindOf; rw [dif_pos h]; exact congrArg some (semOf_injective h.choose_spec)

theorem kindOf_none {g : SemLoc sig} (h : ∀ k, semOf k ≠ g) : kindOf g = none := by
  unfold kindOf; exact dif_neg fun ⟨k, hk⟩ => h k hk

abbrev kcell (ck : Dev nD × Kd) : GSem nD τ sig := ((ck.1.tc : Thread nD τ), semOf ck.2)
abbrev barCell (c : Dev nD) : GSem nD τ sig := kcell (c, kBar)
abbrev inCell (c : Dev nD) (i : Fin 2) : GSem nD τ sig := kcell (c, kIn i)
abbrev sndCell (c : Dev nD) (k : Fin 15) : GSem nD τ sig := kcell (c, kSnd k)
abbrev rcvCell (c : Dev nD) (s : Fin 16) : GSem nD τ sig := kcell (c, kRcv s)

theorem kcell_injective : Function.Injective (kcell : Dev nD × Kd → GSem nD τ sig) := by
  rintro ⟨c, k⟩ ⟨c', k'⟩ h
  have h1 : c = c' := congrArg (fun g : GSem nD τ sig => g.1.1) h
  have h2 : semOf k = semOf k' := congrArg Prod.snd h
  rw [h1, semOf_injective h2]

/-- The credit of one copy of the rows, and of one copy of the partial sums. -/
def NI : ℕ := xvM.view.dmaCredit
def N : ℕ := accM.view.dmaCredit
theorem NI_pos : 0 < NI := View.dmaCredit_pos _ (by decide)
theorem N_pos : 0 < N := View.dmaCredit_pos _ (by decide)

/-! ## What the cells hand over -/

/-- The elements a memref names, on device `c`, at contents `f`. -/
abbrev held {sp : Space} {s : Shape} {e : EltTy} (M : Memref sig .tc sp s e) (c : Dev nD) (q : PosShare TreeShare)
    (f : Buf (Elt F) (M.view.loc (c.tc : Thread nD τ))) : sProp 𝕄 := M.view.loc (c.tc : Thread nD τ) ↦[M.view.set]{q} f

/-- The share of the partial sums the own copy reads, and that each send reads. -/
def accOwn (c : Dev nD) : sProp 𝕄 := held accM c (shareDrop fullShare 15) (acc m c)
def accSend (c : Dev nD) (k : Fin 15) : sProp 𝕄 := held accM c (shareTok fullShare 15 k) (acc m c)
/-- Slot `s` on device `c` at some contents, and filled. -/
def slotAny (c : Dev nD) (s : Fin 16) : sProp 𝕄 := iprop(∃ f : S16x2x2048.Idx → Elt F .bf16, held (slot s) c fullShare f)
def slotFull (c : Dev nD) (s : Fin 16) : sProp 𝕄 := held (slot s) c fullShare (gat m)

def inPay (c : Dev nD) : Fin 2 → sProp 𝕄
  | 0 => iprop(held xvM c fullShare (xv m c) ∗ held (xRows c) c fullShare (m ((c.tc : Thread nD τ).loc main_arg0)))
  | 1 => iprop(held dyvM c fullShare (dyv m c) ∗ held (dyRows c) c fullShare (m ((c.tc : Thread nD τ).loc main_arg1)))
def rcvPay (c : Dev nD) (s : Fin 16) : sProp 𝕄 := iprop(slotFull m c s ∗ if s = c then accOwn m c else emp)

/-- What duty `d` of a cell of device `c` hands over, who pays, and how much. -/
def payOf (c : Dev nD) : Kd → Fin 16 → sProp 𝕄
  | none, d => slotAny d c
  | some (.inl i), _ => inPay m c i
  | some (.inr (.inl k)), _ => accSend m c k
  | some (.inr (.inr s)), _ => rcvPay m c s
def dutOf (c : Dev nD) : Kd → Finset (Fin 16)
  | none => Finset.univ.erase c
  | some (.inl _) => {c}
  | some (.inr (.inl _)) => {c}
  | some (.inr (.inr s)) => {s}
def amtOf : Kd → ℕ
  | none => 1
  | some (.inl _) => NI
  | some (.inr _) => N
theorem amtOf_pos (k : Kd) : 0 < amtOf k := by
  unfold amtOf
  split
  · exact Nat.one_pos
  · exact NI_pos
  · exact N_pos

instance accOwn_storable (c : Dev nD) : BI.Storable (upEmb : UEmb _ 𝕄) (accOwn m c) := by unfold accOwn; infer_instance
instance accSend_storable (c : Dev nD) (k : Fin 15) : BI.Storable (upEmb : UEmb _ 𝕄) (accSend m c k) := by unfold accSend; infer_instance
instance slotAny_storable (c : Dev nD) (s : Fin 16) : BI.Storable (upEmb : UEmb _ 𝕄) (slotAny (F := F) c s) := by unfold slotAny; infer_instance
instance slotFull_storable (c : Dev nD) (s : Fin 16) : BI.Storable (upEmb : UEmb _ 𝕄) (slotFull m c s) := by unfold slotFull; infer_instance
instance inPay_storable (c : Dev nD) : ∀ i, BI.Storable (upEmb : UEmb _ 𝕄) (inPay m c i)
  | 0 => by unfold inPay; infer_instance
  | 1 => by unfold inPay; infer_instance
instance rcvPay_storable (c : Dev nD) (s : Fin 16) : BI.Storable (upEmb : UEmb _ 𝕄) (rcvPay m c s) := by
  unfold rcvPay; by_cases h : s = c
  · rw [if_pos h]; infer_instance
  · rw [if_neg h]; infer_instance
instance payOf_storable (c : Dev nD) : ∀ k d, BI.Storable (upEmb : UEmb _ 𝕄) (payOf m c k d)
  | none, d => by unfold payOf; infer_instance
  | some (.inl i), _ => by unfold payOf; infer_instance
  | some (.inr (.inl k)), _ => by unfold payOf; infer_instance
  | some (.inr (.inr s)), _ => by unfold payOf; infer_instance

/-! ## The schedule -/

def Rd : Rounds.Schedule (GSem nD τ sig) (Fin 16) 𝕄 where
  duties g r := if r = 0 ∧ g.1.2 = .tc then (kindOf g.2).elim ∅ (dutOf g.1.1) else ∅
  unitless _ := False
  amount g _ _ := (kindOf g.2).elim 1 amtOf
  payload g _ d := (kindOf g.2).elim iprop(emp) fun k => payOf m g.1.1 k d
  amount_pos g _ _ _ := by
    cases h : kindOf g.2 with
    | none => exact Nat.one_pos
    | some k => exact amtOf_pos k

instance Rd_payload_storable (g : GSem nD τ sig) (r : ℕ) (d : Fin 16) : BI.Storable (upEmb : UEmb _ 𝕄) ((Rd m).payload g r d) := by
  show BI.Storable upEmb ((kindOf g.2).elim iprop(emp) fun k => payOf m g.1.1 k d)
  cases kindOf g.2 with
  | none => show BI.Storable upEmb iprop(emp); infer_instance
  | some k => exact payOf_storable m _ k d

theorem duties_at (c : Dev nD) (k : Kd) : (Rd m).duties (kcell (c, k)) 0 = dutOf c k := by
  dsimp only [Rd]; rw [if_pos ⟨rfl, rfl⟩, kindOf_semOf]; rfl
theorem duties_later (g : GSem nD τ sig) (r : ℕ) (hr : 1 ≤ r) : (Rd m).duties g r = ∅ := by
  dsimp only [Rd]; exact if_neg fun h => by omega
theorem amount_at (c : Dev nD) (k : Kd) (r : ℕ) (d : Fin 16) : (Rd m).amount (kcell (c, k)) r d = amtOf k := by
  dsimp only [Rd]; rw [kindOf_semOf]; rfl
theorem payload_at (c : Dev nD) (k : Kd) (r : ℕ) (d : Fin 16) : (Rd m).payload (kcell (c, k)) r d = payOf m c k d := by
  dsimp only [Rd]; rw [kindOf_semOf]; rfl
theorem expect_at (c : Dev nD) (k : Kd) : (Rd m).expect (kcell (c, k)) 0 = (dutOf c k).card * amtOf k := by
  unfold Schedule.expect Schedule.amountOf
  rw [duties_at, Finset.sum_congr rfl fun d _ => amount_at m c k 0 d, Finset.sum_const, smul_eq_mul]
theorem rest_at (c : Dev nD) (k : Kd) :
    bigSep ((Rd m).duties (kcell (c, k)) 0 \ ∅) (fun d => (Rd m).payload (kcell (c, k)) 0 d) = bigSep (dutOf c k) (payOf m c k) := by
  rw [Finset.sdiff_empty, duties_at]; exact bigSep_congr fun d _ => payload_at m c k 0 d

theorem expect_bar (c : Dev nD) : (Rd m).expect (barCell c) 0 = 15 := by
  rw [expect_at]; show (Finset.univ.erase c).card * 1 = 15
  rw [Nat.mul_one, Finset.card_erase_of_mem (Finset.mem_univ _)]; rfl
theorem expect_in (c : Dev nD) (i : Fin 2) : (Rd m).expect (inCell c i) 0 = NI := by
  rw [expect_at]; show (1 : ℕ) * NI = NI; exact Nat.one_mul _
theorem expect_snd (c : Dev nD) (k : Fin 15) : (Rd m).expect (sndCell c k) 0 = N := by
  rw [expect_at]; show (1 : ℕ) * N = N; exact Nat.one_mul _
theorem expect_rcv (c : Dev nD) (s : Fin 16) : (Rd m).expect (rcvCell c s) 0 = N := by
  rw [expect_at]; show (1 : ℕ) * N = N; exact Nat.one_mul _

theorem rest_bar (c : Dev nD) :
    bigSep ((Rd m).duties (barCell c) 0 \ ∅) (fun d => (Rd m).payload (barCell c) 0 d) = bigSep (Finset.univ.erase c) fun d => slotAny d c := rest_at m c kBar
theorem rest_in (c : Dev nD) (i : Fin 2) :
    bigSep ((Rd m).duties (inCell c i) 0 \ ∅) (fun d => (Rd m).payload (inCell c i) 0 d) = inPay m c i :=
  (rest_at m c (kIn i)).trans bigSep_singleton
theorem rest_snd (c : Dev nD) (k : Fin 15) :
    bigSep ((Rd m).duties (sndCell c k) 0 \ ∅) (fun d => (Rd m).payload (sndCell c k) 0 d) = accSend m c k :=
  (rest_at m c (kSnd k)).trans bigSep_singleton
theorem rest_rcv (c : Dev nD) (s : Fin 16) :
    bigSep ((Rd m).duties (rcvCell c s) 0 \ ∅) (fun d => (Rd m).payload (rcvCell c s) 0 d) = rcvPay m c s :=
  (rest_at m c (kRcv s)).trans bigSep_singleton

/-! ## Peers -/

/-- The `k`-th peer of device `c`: its coordinates moved by the bits of `k + 1`. -/
def peer (c : Dev nD) (k : Fin 15) : Dev nD :=
  ⟨8 * ((c.val / 8 + (k.val + 1) / 8) % 2) + 4 * ((c.val / 4 + (k.val + 1) / 4) % 2) + (c.val % 4 + (k.val + 1) % 4) % 4, by
    show _ < 16; omega⟩

theorem sigDev_eq : ∀ c k, sigDev c k = peer c k := by decide +kernel
theorem sendDev_eq : ∀ c k, sendDev c k = peer c k := by decide +kernel
theorem peer_injective : ∀ c : Dev nD, Function.Injective (peer c) := by decide +kernel
theorem peer_ne : ∀ (c : Dev nD) k, peer c k ≠ c := by decide +kernel
theorem peer_image : ∀ c : Dev nD, Finset.univ.image (peer c) = Finset.univ.erase c := by decide +kernel

/-! ## What is owed, and the levels -/

/-- What device `c` owes for the listed copies, and for the listed signals. -/
def sendDue (c : Dev nD) : List (Fin 15) → CellTallies nD τ sig Unit
  | [] => 0
  | k :: ks => sendDue c ks + tallyAt (rcvCell (peer c k) c) () N
def sigDue (c : Dev nD) : List (Fin 15) → CellTallies nD τ sig Unit
  | [] => 0
  | k :: ks => sigDue c ks + tallyAt (barCell (peer c k)) () 1
def O₀ (c : Dev nD) : CellTallies nD τ sig Unit := sendDue c l15 + sigDue c l15

theorem sendDue_pos {c : Dev nD} {g : GSem nD τ sig} {u : Unit} : ∀ {ks : List (Fin 15)}, 0 < sendDue c ks g u → ∃ k, g = rcvCell (peer c k) c
  | [], h => absurd h (Nat.lt_irrefl 0)
  | k :: ks, h => by
    rw [sendDue, Pi.add_apply, Finsupp.add_apply, tallyAt_apply] at h
    by_cases hk : g = rcvCell (peer c k) c ∧ u = ()
    · exact ⟨k, hk.1⟩
    · rw [if_neg hk, Nat.add_zero] at h; exact sendDue_pos h
theorem sigDue_pos {c : Dev nD} {g : GSem nD τ sig} {u : Unit} : ∀ {ks : List (Fin 15)}, 0 < sigDue c ks g u → ∃ k, g = barCell (peer c k)
  | [], h => absurd h (Nat.lt_irrefl 0)
  | k :: ks, h => by
    rw [sigDue, Pi.add_apply, Finsupp.add_apply, tallyAt_apply] at h
    by_cases hk : g = barCell (peer c k) ∧ u = ()
    · exact ⟨k, hk.1⟩
    · rw [if_neg hk, Nat.add_zero] at h; exact sigDue_pos h
theorem O₀_pos {c : Dev nD} {g : GSem nD τ sig} {u : Unit} (h : 0 < O₀ c g u) :
    (∃ k, g = rcvCell (peer c k) c) ∨ ∃ k, g = barCell (peer c k) := by
  unfold O₀ at h
  rw [Pi.add_apply, Finsupp.add_apply] at h
  rcases Nat.eq_zero_or_pos (sendDue c l15 g u) with h0 | h0
  · rw [h0, Nat.zero_add] at h; exact .inr (sigDue_pos h)
  · exact .inl (sendDue_pos h0)

def L (g : GSem nD τ sig) : Finset Unit := if g.1.2 = .tc then {()} else ∅
def lvOf : Kd → ℕ
  | none => 1
  | some (.inl _) => 0
  | some (.inr (.inl _)) => 0
  | some (.inr (.inr _)) => 2
def lv (g : GSem nD τ sig) (_ : Unit) : ℕ := (kindOf g.2).elim 0 lvOf

theorem L_of_ne (g : GSem nD τ sig) (h : g.1.2 ≠ .tc) : L g = ∅ := if_neg h
theorem L_tc (c : Dev nD) (sm : SemLoc sig) : L ((c.tc : Thread nD τ), sm) = {()} := if_pos rfl
theorem lv_at (c : Dev nD) (k : Kd) (u : Unit) : lv (kcell (c, k)) u = lvOf k := by unfold lv; rw [kindOf_semOf]; rfl

/-- Before its signals a device may wait on a semaphore at level 0. -/
theorem mayWait_low (c : Dev nD) (sm : SemLoc sig) (h0 : lv ((c.tc : Thread nD τ), sm) () = 0) :
    (levAts L lv : sProp 𝕄) ⊢ MayWait (c.tc : Thread nD τ) sm () (O₀ c) := by
  refine MayOwe.of_cut (L := L) (lev := lv) 0 (fun p hp => by rw [Finset.mem_singleton.mp hp, L_tc]; exact Finset.mem_singleton_self _)
    (fun g u hg => by rcases O₀_pos hg with ⟨k, rfl⟩ | ⟨k, rfl⟩ <;> exact Finset.mem_singleton_self _)
    (fun p hp => by rw [Finset.mem_singleton.mp hp]; exact h0.le)
    (fun g u hg => by
      rcases O₀_pos hg with ⟨k, rfl⟩ | ⟨k, rfl⟩ <;> rw [lv_at]
      · exact Nat.zero_lt_two
      · exact Nat.zero_lt_one)

/-- Owing only its copies a device may wait on a semaphore at a level up to 1. -/
theorem mayWait_mid (c : Dev nD) (k : Kd) (h1 : lvOf k ≤ 1) :
    (levAts L lv : sProp 𝕄) ⊢ MayWait (c.tc : Thread nD τ) (semOf k) () (sendDue c l15) := by
  refine MayOwe.of_cut (L := L) (lev := lv) 1 (fun p hp => by rw [Finset.mem_singleton.mp hp, L_tc]; exact Finset.mem_singleton_self _)
    (fun g u hg => by obtain ⟨k, rfl⟩ := sendDue_pos hg; exact Finset.mem_singleton_self _)
    (fun p hp => by rw [Finset.mem_singleton.mp hp]; exact (lv_at c k ()).le.trans h1)
    (fun g u hg => by obtain ⟨k, rfl⟩ := sendDue_pos hg; rw [lv_at]; exact Nat.one_lt_two)

/-! ## Ghost state -/

/-- The cells' invariants, under names `K`, and that each has reached its only round. -/
def records (K : Dev nD × Kd → ℕ) : sProp 𝕄 :=
  iprop((bigSep Finset.univ fun ck : Dev nD × Kd => cellInv ER (Rd m) (K ck) (kcell ck))
    ∗ bigSep Finset.univ fun ck : Dev nD × Kd => reached ER (kcell ck) 0)
instance records_persistent (K : Dev nD × Kd → ℕ) : BI.Persistent (records m K) := by unfold records; infer_instance

theorem inv_of (K : Dev nD × Kd → ℕ) (c : Dev nD) (k : Kd) : records m K ⊢ cellInv ER (Rd m) (K (c, k)) (kcell (c, k)) := by
  unfold records; iintro ⟨H, -⟩
  iapply (show _ ⊢ _ from bigSep_elim (Φ := fun ck : Dev nD × Kd => (cellInv ER (Rd m) (K ck) (kcell ck) : sProp 𝕄)) (Finset.mem_univ (c, k))); iexact H
theorem reached_of (K : Dev nD × Kd → ℕ) (c : Dev nD) (k : Kd) : records m K ⊢ reached ER (kcell (c, k)) 0 := by
  unfold records; iintro ⟨-, H⟩
  iapply (show _ ⊢ _ from bigSep_elim (Φ := fun ck : Dev nD × Kd => (reached ER (kcell ck) 0 : sProp 𝕄)) (Finset.mem_univ (c, k))); iexact H

/-! ## Lists of resources -/

def sepL {I : Type} (Φ : I → sProp 𝕄) : List I → sProp 𝕄
  | [] => iprop(emp)
  | i :: is => iprop(Φ i ∗ sepL Φ is)

theorem sepL_eq {I : Type} [DecidableEq I] (Φ : I → sProp 𝕄) : ∀ l : List I, l.Nodup → sepL Φ l = bigSep l.toFinset Φ
  | [], _ => by rw [List.toFinset_nil, bigSep_empty]; rfl
  | i :: is, h => by
    rw [List.nodup_cons] at h
    rw [List.toFinset_cons, bigSep_insert (fun hm => h.1 (List.mem_toFinset.mp hm)), sepL, sepL_eq Φ is h.2]; rfl

theorem sepL15 (Φ : Fin 15 → sProp 𝕄) : sepL Φ l15 = bigSep Finset.univ Φ := by
  rw [sepL_eq Φ l15 (by decide)]; rfl
theorem sepL16 (Φ : Fin 16 → sProp 𝕄) : sepL Φ l16 = bigSep Finset.univ Φ := by
  rw [sepL_eq Φ l16 (by decide)]; rfl

/-- A family over the other devices, listed by peers. -/
theorem sepL_peer (c : Dev nD) (Φ : Dev nD → sProp 𝕄) : sepL (fun k => Φ (peer c k)) l15 = bigSep (Finset.univ.erase c) Φ := by
  have h : Finset.univ.map ⟨peer c, peer_injective c⟩ = Finset.univ.erase c := (Finset.map_eq_image _ _).trans (peer_image c)
  rw [sepL15, ← h, bigSep_map]; rfl

end Cert.DgammaProof

end
-- ==== Proof.Steps.lean ====
/- The four lists of operations of the body, each by induction over its list: the signals, the copies to the peers,
   the waits for the arrivals, the waits for the departures. -/
module

public import proofs.«01_k».proof.Proof.Protocol

@[expose] public section

noncomputable section

namespace Cert.DgammaProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × Kd → ℕ) (c : Dev nD)

abbrev 𝒱₀ : Variants := Variants.none
abbrev WP (Q : PUnit → sProp 𝕄) (p : PG F) : sProp 𝕄 := wp frame (wpE (defs₀ (F := F)) 𝒱₀ (c.tc : Thread nD τ) none) Set.univ p Q

/-- What device `c` owes, whatever it has waited for. -/
def owing (O : CellTallies nD τ sig Unit) : sProp 𝕄 := iprop(∃ W, owes (c.tc : Thread nD τ) O W)

theorem slot_credit (s : Fin 16) : (slot s).view.dmaCredit = N := rfl

/-! ## Signals -/

theorem signals_wp (Q : PUnit → sProp 𝕄) (O : CellTallies nD τ sig Unit) (p : PG F) : ∀ ks : List (Fin 15),
    iprop(records m K ∗ owing c (O + sigDue c ks) ∗ sepL (fun k => iprop(dutyTok ER (barCell (peer c k)) 0 c ∗ slotAny c (peer c k))) ks)
      ⊢ iprop((owing c O -∗ WP c Q p) -∗ WP c Q (signals c ks p))
  | [] => by
    unfold signals; rw [sigDue, add_zero]
    iintro ⟨-, HO, -⟩ Hk; iapply Hk; iexact HO
  | k :: ks => by
    unfold signals sepL owing; rw [sigDev_eq]
    iintro ⟨#HR, ⟨%W, HO⟩, ⟨Ht, Hs⟩, Hrest⟩ Hk
    iapply (Rounds.wp_signal 𝒱₀ ER (Rd m) (c.tc : Thread nD τ) none (dst := ((peer c k).tc : Thread nD τ)) (κ := K (peer c k, kBar)) (r := 0) (d := c)
        (by rw [duties_at m (peer c k) kBar]; exact Finset.mem_erase.mpr ⟨(peer_ne c k).symm, Finset.mem_univ _⟩)
        ((amount_at m (peer c k) kBar 0 c).trans rfl) () (O₀ := O + sigDue c (k :: ks)) (O + sigDue c ks)
        (add_assoc O (sigDue c ks) (tallyAt (barCell (peer c k)) () 1)).symm) $$ [HO Ht Hs]
    · isplitr; · iapply (inv_of m K (peer c k) kBar); iexact HR
      isplitl [HO]; · iexact HO
      isplitl [Ht]; · iexact Ht
      isplitl [Hs]; · rw [show (Rd m).payload (barCell (peer c k)) 0 c = slotAny c (peer c k) from payload_at m (peer c k) kBar 0 c]; iexact Hs
      iapply (reached_of m K (peer c k) kBar); iexact HR
    iintro HO
    iapply (signals_wp Q O p ks) $$ [HO Hrest]
    · isplitr; · iexact HR
      isplitl [HO]; · unfold owing; iexists W; iexact HO
      iexact Hrest
    unfold owing; iexact Hk

/-! ## Copies to the peers -/

/-- The addressed copy of the partial sums, at the device, slot and semaphore it names. -/
theorem send_one (Q : PUnit → sProp 𝕄) (k : Fin 15) (n : Dev nD) (hn : n = peer c k) (dst : Memref sig .tc .vmem S2x2048 .bf16) (hdst' : dst = slot c)
    (rs : DmaSem sig) (hrs : rs = recvS c) {hsc : dst.view.ref.isScScratch = false}
    {hsrc : accM.view.WordExact} {hd : dst.view.WordExact}
    {hsem : DmaTarget.Typed .vmem (.dma rs) (.remote (Dev.tc n : Thread nD τ) dst (.dma (sendS k)) hsc)}
    {kont : PUnit → PG F} (O : CellTallies nD τ sig Unit) (W : Waits sig Unit) :
    iprop(records m K ∗ owes (c.tc : Thread nD τ) (O + tallyAt (rcvCell (peer c k) c) () N) W
        ∗ dutyTok ER (sndCell c k) 0 c ∗ dutyTok ER (rcvCell (peer c k) c) 0 c ∗ accSend m c k ∗ slotAny (peer c k) c)
      ⊢ iprop(((cred (tallyAt (sndCell c k) () N) ∗ owes (c.tc : Thread nD τ) O W) -∗ WP c Q (kont ⟨⟩))
          -∗ WP c Q (.op (.enqueueDma accM (.remote (Dev.tc n : Thread nD τ) dst (.dma (sendS k)) hsc) (.dma rs) hsrc hd hsem) kont)) := by
  subst hn hdst' hrs
  unfold accSend slotAny
  iintro ⟨#HR, HO, Ht1, Ht2, Ha, ⟨%fd, Hs⟩⟩ Hk
  iapply (Rounds.wp_send_pointsTo 𝒱₀ ER (Rd m) (c.tc : Thread nD τ) none (κ₁ := K (c, kSnd k)) (κ₂ := K (peer c k, kRcv c))
    (c' := ((peer c k).tc : Thread nD τ)) (src := accM) (dst := slot c) (sS := .dma (sendS k)) (sem := .dma (recvS c))
    (q := shareTok fullShare 15 k) (fs := acc m c) (r₁ := 0) (r₂ := 0) (d₁ := c) (d₂ := c) (fd := fd)
    (by rw [duties_at m c (kSnd k)]; exact Finset.mem_singleton_self _)
    (by rw [duties_at m (peer c k) (kRcv c)]; exact Finset.mem_singleton_self _)
    () () N (slot_credit c) (amount_at m c (kSnd k) 0 c) (amount_at m (peer c k) (kRcv c) 0 c) O rfl (W := W)
    (by rw [payload_at m c (kSnd k)]; exact BI.Entails.refl _)
    (by
      rw [payload_at m (peer c k) (kRcv c)]
      show _ ⊢ rcvPay m (peer c k) c
      unfold rcvPay slotFull
      rw [if_neg (peer_ne c k).symm, View.read_whole]
      refine BI.Entails.trans ?_ (sep_emp (PROP := sProp 𝕄)).2
      exact Entails.of_eq (pointsTo_congr fun i hi => slot_write m c fd i hi)))
    $$ [HO Ht1 Ht2 Ha Hs]
  · isplitr; · iapply (inv_of m K c (kSnd k)); iexact HR
    isplitr; · iapply (inv_of m K (peer c k) (kRcv c)); iexact HR
    isplitl [Ha]; · iexact Ha
    isplitl [Hs]; · iexact Hs
    isplitl [HO]; · iexact HO
    isplitl [Ht1]; · iexact Ht1
    isplitr; · iapply (reached_of m K c (kSnd k)); iexact HR
    isplitl [Ht2]; · iexact Ht2
    iapply (reached_of m K (peer c k) (kRcv c)); iexact HR
  iexact Hk

theorem sends_wp (Q : PUnit → sProp 𝕄) (O : CellTallies nD τ sig Unit) (p : PG F) : ∀ ks : List (Fin 15),
    iprop(records m K ∗ owing c (O + sendDue c ks)
        ∗ sepL (fun k => iprop(dutyTok ER (sndCell c k) 0 c ∗ dutyTok ER (rcvCell (peer c k) c) 0 c ∗ accSend m c k ∗ slotAny (peer c k) c)) ks)
      ⊢ iprop(((owing c O ∗ sepL (fun k => cred (tallyAt (sndCell c k) () N)) ks) -∗ WP c Q p) -∗ WP c Q (sends c ks p))
  | [] => by
    unfold sends sepL; rw [sendDue, add_zero]
    iintro ⟨-, HO, -⟩ Hk; iapply Hk; isplitl [HO]; · iexact HO
    iempintro
  | k :: ks => by
    unfold sends sepL owing
    iintro ⟨#HR, ⟨%W, HO⟩, Hr, Hrest⟩ Hk
    iapply (send_one m K c Q k _ (sendDev_eq c k) _ (mySlot_eq c) _ (myRecvS_eq c) (O + sendDue c ks) W) $$ [HO Hr]
    · isplitr; · iexact HR
      isplitl [HO]; · rw [sendDue, add_assoc]; iexact HO
      iexact Hr
    iintro ⟨Hc, HO⟩
    iapply (sends_wp Q O p ks) $$ [HO Hrest]
    · isplitr; · iexact HR
      isplitl [HO]; · unfold owing; iexists W; iexact HO
      iexact Hrest
    iintro ⟨HO, Hcs⟩
    iapply Hk
    unfold owing
    isplitl [HO]; · iexact HO
    isplitl [Hc] <;> iassumption

/-! ## Waits -/

theorem arrivals_wp (Q : PUnit → sProp 𝕄) (p : PG F) : ∀ ss : List (Fin 16),
    iprop(records m K ∗ owing c 0 ∗ sepL (fun s => iprop(cred (tallyAt (rcvCell c s) () N) ∗ atPos ER (rcvCell c s) 0 ∅ 0)) ss)
      ⊢ iprop(((owing c 0 ∗ sepL (fun s => iprop(atPos ER (rcvCell c s) 1 ∅ 0 ∗ rcvPay m c s)) ss) -∗ WP c Q p) -∗ WP c Q (arrivals ss p))
  | [] => by
    unfold arrivals sepL
    iintro ⟨-, HO, -⟩ Hk; iapply Hk; isplitl [HO]; · iexact HO
    iempintro
  | s :: ss => by
    unfold arrivals sepL owing
    iintro ⟨#HR, ⟨%W, HO⟩, ⟨Hc, Ha⟩, Hrest⟩ Hk
    iapply (Rounds.wp_wait_rest_token 𝒱₀ ER (Rd m) (c.tc : Thread nD τ) none (κ := K (c, kRcv s)) (sm := .dma (recvS s)) (k' := (slot s).view.dmaCredit)
      (wpE_waitDma2_eq 𝒱₀ (c.tc : Thread nD τ) none Set.univ) (Set.mem_univ _) () (O := 0) (W := W) (R := 0) (m := 0) (T := ∅)
      (by rw [Nat.zero_add, slot_credit]; exact (expect_rcv m c s).symm)) $$ [HO Hc Ha]
    · isplitr; · iapply (inv_of m K c (kRcv s)); iexact HR
      isplitl [Hc]; · rw [slot_credit]; iexact Hc
      isplitl [HO]; · iexact HO
      isplitr; · rw [MayWait_zero]; iempintro
      iexact Ha
    iintro ⟨HO, Ha, -, Hpay⟩
    ihave Hp := (Entails.of_eq (rest_rcv m c s)) $$ Hpay
    iapply (arrivals_wp Q p ss) $$ [HO Hrest]
    · isplitr; · iexact HR
      isplitl [HO]; · unfold owing; iexists _; iexact HO
      iexact Hrest
    iintro ⟨HO, Hrs⟩
    iapply Hk
    unfold owing
    isplitl [HO]; · iexact HO
    isplitl [Ha Hp]
    · isplitl [Ha]; · iexact Ha
      iexact Hp
    iexact Hrs

theorem departures_wp (Q : PUnit → sProp 𝕄) (p : PG F) : ∀ ks : List (Fin 15),
    iprop(records m K ∗ owing c 0 ∗ sepL (fun k => cred (tallyAt (sndCell c k) () N)) ks ∗ sepL (fun k => atPos ER (sndCell c k) 0 ∅ 0) ks)
      ⊢ iprop(((owing c 0 ∗ sepL (fun k => iprop(atPos ER (sndCell c k) 1 ∅ 0 ∗ accSend m c k)) ks) -∗ WP c Q p) -∗ WP c Q (departures c ks p))
  | [] => by
    unfold departures sepL
    iintro ⟨-, HO, -⟩ Hk; iapply Hk; isplitl [HO]; · iexact HO
    iempintro
  | k :: ks => by
    unfold departures sepL owing
    iintro ⟨#HR, ⟨%W, HO⟩, ⟨Hc, Hcs⟩, ⟨Ha, Has⟩⟩ Hk
    iapply (Rounds.wp_wait_rest_token 𝒱₀ ER (Rd m) (c.tc : Thread nD τ) none (κ := K (c, kSnd k)) (sm := .dma (sendS k)) (k' := N)
      (wpE_waitDma2_eq 𝒱₀ (c.tc : Thread nD τ) none Set.univ) (Set.mem_univ _) () (O := 0) (W := W) (R := 0) (m := 0) (T := ∅)
      (by rw [Nat.zero_add]; exact (expect_snd m c k).symm)) $$ [HO Hc Ha]
    · isplitr; · iapply (inv_of m K c (kSnd k)); iexact HR
      isplitl [Hc]; · iexact Hc
      isplitl [HO]; · iexact HO
      isplitr; · rw [MayWait_zero]; iempintro
      iexact Ha
    iintro ⟨HO, Ha, -, Hpay⟩
    ihave Hp := (Entails.of_eq (rest_snd m c k)) $$ Hpay
    iapply (departures_wp Q p ks) $$ [HO Hcs Has]
    · isplitr; · iexact HR
      isplitl [HO]; · unfold owing; iexists _; iexact HO
      isplitl [Hcs] <;> iassumption
    iintro ⟨HO, Hrs⟩
    iapply Hk
    unfold owing
    isplitl [HO]; · iexact HO
    isplitl [Ha Hp]
    · isplitl [Ha]; · iexact Ha
      iexact Hp
    iexact Hrs

end Cert.DgammaProof

end
-- ==== Proof.Phases.lean ====
/- The body in three stretches: the rows copied in and the signals sent; the partial sums and the barrier; the copies
   to the peers, the arrivals, the result and the departures. -/
module

public import proofs.«01_k».proof.Proof.Steps

@[expose] public section

noncomputable section

namespace Cert.DgammaProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (K : Dev nD × Kd → ℕ) (c : Dev nD)

/-- A whole buffer of device `c` at some contents. -/
def anyBuf {sp : Space} {s : Shape} {e : EltTy} (M : Memref sig .tc sp s e) (c : Dev nD) : sProp 𝕄 := iprop(∃ f, held M c fullShare f)

/-- Device `c`'s rows of the two inputs. -/
def xIn : sProp 𝕄 := held (xRows c) c fullShare (m ((c.tc : Thread nD τ).loc main_arg0))
def dyIn : sProp 𝕄 := held (dyRows c) c fullShare (m ((c.tc : Thread nD τ).loc main_arg1))

/-! ## The rows copied in, the signals -/

theorem xv_credit : xvM.view.dmaCredit = NI := rfl
theorem dyv_credit : dyvM.view.dmaCredit = NI := rfl

theorem rows_wp (Q : PUnit → sProp 𝕄) :
    iprop(records m K ∗ levAts L lv ∗ owing c (O₀ c) ∗ (atPos ER (inCell c 0) 0 ∅ 0 ∗ atPos ER (inCell c 1) 0 ∅ 0)
        ∗ (dutyTok ER (inCell c 0) 0 c ∗ dutyTok ER (inCell c 1) 0 c) ∗ (anyBuf xvM c ∗ anyBuf dyvM c) ∗ (xIn m c ∗ dyIn m c)
        ∗ sepL (fun k => iprop(dutyTok ER (barCell (peer c k)) 0 c ∗ slotAny c (peer c k))) l15)
      ⊢ iprop(((owing c (sendDue c l15) ∗ (atPos ER (inCell c 0) 1 ∅ 0 ∗ atPos ER (inCell c 1) 1 ∅ 0)
          ∗ (held xvM c fullShare (xv m c) ∗ held dyvM c fullShare (dyv m c)) ∗ (xIn m c ∗ dyIn m c)) -∗ WP c Q (prog2 c)) -∗ WP c Q (prog c)) := by
  unfold prog anyBuf xIn dyIn
  iintro ⟨#HR, #Hlev, HO, ⟨Ha0, Ha1⟩, ⟨Ht0, Ht1⟩, ⟨⟨%f0, Hv0⟩, ⟨%f1, Hv1⟩⟩, ⟨Hx, Hdy⟩, Hsig⟩ Hk
  iapply (Rounds.wp_copy_pointsTo 𝒱₀ ER (Rd m) (c.tc : Thread nD τ) none (κ := K (c, kIn 0)) (src := xRows c) (dst := xvM) (sem := .dma (inS 0))
    (q := fullShare) (fs := m ((c.tc : Thread nD τ).loc main_arg0)) (fd := f0) (r := 0) (d := c)
    (by rw [duties_at m c (kIn 0)]; exact Finset.mem_singleton_self _) () NI xv_credit (amount_at m c (kIn 0) 0 c)
    (by
      rw [payload_at m c (kIn 0)]
      show _ ⊢ inPay m c 0
      unfold inPay
      rw [View.write_whole_univ]; exact BI.Entails.refl _)) $$ [Hx Hv0 Ht0]
  · isplitr; · iapply (inv_of m K c (kIn 0)); iexact HR
    isplitl [Hx]; · iexact Hx
    isplitl [Hv0]; · iexact Hv0
    isplitl [Ht0]; · iexact Ht0
    iapply (reached_of m K c (kIn 0)); iexact HR
  iintro Hc0
  iapply (Rounds.wp_copy_pointsTo 𝒱₀ ER (Rd m) (c.tc : Thread nD τ) none (κ := K (c, kIn 1)) (src := dyRows c) (dst := dyvM) (sem := .dma (inS 1))
    (q := fullShare) (fs := m ((c.tc : Thread nD τ).loc main_arg1)) (fd := f1) (r := 0) (d := c)
    (by rw [duties_at m c (kIn 1)]; exact Finset.mem_singleton_self _) () NI dyv_credit (amount_at m c (kIn 1) 0 c)
    (by
      rw [payload_at m c (kIn 1)]
      show _ ⊢ inPay m c 1
      unfold inPay
      rw [View.write_whole_univ]; exact BI.Entails.refl _)) $$ [Hdy Hv1 Ht1]
  · isplitr; · iapply (inv_of m K c (kIn 1)); iexact HR
    isplitl [Hdy]; · iexact Hdy
    isplitl [Hv1]; · iexact Hv1
    isplitl [Ht1]; · iexact Ht1
    iapply (reached_of m K c (kIn 1)); iexact HR
  iintro Hc1
  iapply (signals_wp m K c Q (sendDue c l15) _ l15) $$ [HO Hsig]
  · isplitr; · iexact HR
    isplitl [HO]; · unfold O₀; iexact HO
    iexact Hsig
  unfold owing
  iintro ⟨%W, HO⟩
  iapply (Rounds.wp_wait_rest_token 𝒱₀ ER (Rd m) (c.tc : Thread nD τ) none (κ := K (c, kIn 0)) (sm := .dma (inS 0)) (k' := xvM.view.dmaCredit)
    (wpE_waitDma2_eq 𝒱₀ (c.tc : Thread nD τ) none Set.univ) (Set.mem_univ _) () (O := sendDue c l15) (W := W) (R := 0) (m := 0) (T := ∅)
    (by rw [Nat.zero_add, xv_credit]; exact (expect_in m c 0).symm)) $$ [HO Hc0 Ha0]
  · isplitr; · iapply (inv_of m K c (kIn 0)); iexact HR
    isplitl [Hc0]; · rw [xv_credit]; iexact Hc0
    isplitl [HO]; · iexact HO
    isplitr; · iapply (mayWait_mid c (kIn 0) (Nat.zero_le 1)); iexact Hlev
    iexact Ha0
  iintro ⟨HO, Ha0, -, Hpay⟩
  ihave Hp0 := (Entails.of_eq (rest_in m c 0)) $$ Hpay
  iapply (Rounds.wp_wait_rest_token 𝒱₀ ER (Rd m) (c.tc : Thread nD τ) none (κ := K (c, kIn 1)) (sm := .dma (inS 1)) (k' := dyvM.view.dmaCredit)
    (wpE_waitDma2_eq 𝒱₀ (c.tc : Thread nD τ) none Set.univ) (Set.mem_univ _) () (O := sendDue c l15) (R := 0) (m := 0) (T := ∅)
    (by rw [Nat.zero_add, dyv_credit]; exact (expect_in m c 1).symm)) $$ [HO Hc1 Ha1]
  · isplitr; · iapply (inv_of m K c (kIn 1)); iexact HR
    isplitl [Hc1]; · rw [dyv_credit]; iexact Hc1
    isplitl [HO]; · iexact HO
    isplitr; · iapply (mayWait_mid c (kIn 1) (Nat.zero_le 1)); iexact Hlev
    iexact Ha1
  iintro ⟨HO, Ha1, -, Hpay⟩
  ihave Hp1 := (Entails.of_eq (rest_in m c 1)) $$ Hpay
  unfold inPay
  icases Hp0 with ⟨Hv0, Hx⟩
  icases Hp1 with ⟨Hv1, Hdy⟩
  iapply Hk
  isplitl [HO]; · iexists _; iexact HO
  isplitl [Ha0 Ha1]; · isplitl [Ha0] <;> iassumption
  isplitl [Hv0 Hv1]; · isplitl [Hv0] <;> iassumption
  isplitl [Hx] <;> iassumption

/-! ## The partial sums, the own slot, the barrier -/

theorem hz2 : (![0, 0] : Fin 2 → Nat) = fun _ => 0 := funext fun a => by fin_cases a <;> rfl
theorem hz3 : (![0, 0, 0] : Fin 3 → Nat) = fun _ => 0 := funext fun a => by fin_cases a <;> rfl

theorem read_xv (f : S256x2048.Idx → Elt F .f32) : xvM.view.readAt (Elt F) rRows.toLoadRect f = f :=
  Memref.readAt_unit_zero (Elt F) cc0_scratch0 hz2 _ f
theorem read_dyv (f : S256x2048.Idx → Elt F .f32) : dyvM.view.readAt (Elt F) rRows.toLoadRect f = f :=
  Memref.readAt_unit_zero (Elt F) cc0_scratch1 hz2 _ f
theorem read_acc (f : S2x2048.Idx → Elt F .bf16) : accM.view.readAt (Elt F) rAcc.toLoadRect f = f :=
  Memref.readAt_unit_zero (Elt F) cc0_scratch2 hz2 _ f
theorem write_acc (f w : S2x2048.Idx → Elt F .bf16) : (accM.access rAcc : View sig .tc _ _ _).write (Elt F) f w Finset.univ = w :=
  Memref.write_access_unit_zero_univ (Elt F) cc0_scratch2 hz2 _ f w
theorem read_gat (f : S16x2x2048.Idx → Elt F .bf16) : gatM.view.readAt (Elt F) rGat.toLoadRect f = f :=
  Memref.readAt_unit_zero (Elt F) cc0_scratch3 hz3 _ f
theorem write_out (f w : S2x2048.Idx → Elt F .f32) : (outM.access rAcc : View sig .tc _ _ _).write (Elt F) f w Finset.univ = w :=
  Memref.write_access_unit_zero_univ (Elt F) cc0_stg0_0 hz2 _ f w

/-- The copy of the partial sums into the device's own slot. -/
theorem keep_one (Q : PUnit → sProp 𝕄) (dst : Memref sig .tc .vmem S2x2048 .bf16) (hdst' : dst = slot c)
    (rs : DmaSem sig) (hrs : rs = recvS c) {hsrc : accM.view.WordExact} {hd : dst.view.WordExact}
    {hsem : DmaTarget.Typed (nD := nD) .vmem (.dma rs) (.here dst : DmaTarget nD τ sig (c.tc : Thread nD τ).2 .vmem S2x2048 .bf16)} {kont : PUnit → PG F} :
    iprop(records m K ∗ dutyTok ER (rcvCell c c) 0 c ∗ accOwn m c ∗ slotAny c c)
      ⊢ iprop((cred (tallyAt (rcvCell c c) () N) -∗ WP c Q (kont ⟨⟩))
          -∗ WP c Q (.op (.enqueueDma accM (.here dst) (.dma rs) hsrc hd hsem) kont)) := by
  subst hdst' hrs
  unfold accOwn slotAny
  iintro ⟨#HR, Ht, Ha, ⟨%fd, Hs⟩⟩ Hk
  iapply (Rounds.wp_copy_pointsTo 𝒱₀ ER (Rd m) (c.tc : Thread nD τ) none (κ := K (c, kRcv c)) (src := accM) (dst := slot c) (sem := .dma (recvS c))
    (q := shareDrop fullShare 15) (fs := acc m c) (fd := fd) (r := 0) (d := c)
    (by rw [duties_at m c (kRcv c)]; exact Finset.mem_singleton_self _) () N (slot_credit c) (amount_at m c (kRcv c) 0 c)
    (by
      rw [payload_at m c (kRcv c)]
      show _ ⊢ rcvPay m c c
      unfold rcvPay slotFull accOwn
      rw [if_pos rfl, View.read_whole]
      exact sep_mono_left (Entails.of_eq (pointsTo_congr fun i hi => slot_write m c fd i hi)))) $$ [Ht Ha Hs]
  · isplitr; · iapply (inv_of m K c (kRcv c)); iexact HR
    isplitl [Ha]; · iexact Ha
    isplitl [Hs]; · iexact Hs
    isplitl [Ht]; · iexact Ht
    iapply (reached_of m K c (kRcv c)); iexact HR
  iexact Hk

theorem acc_split : (held accM c fullShare (acc m c) : sProp 𝕄) ⊢ iprop(accOwn m c ∗ sepL (accSend m c) l15) := by
  rw [sepL15]; unfold accOwn accSend; exact Transfers.pointsTo_toks_split fullShare 15
theorem acc_join : iprop(accOwn m c ∗ sepL (accSend m c) l15) ⊢ (held accM c fullShare (acc m c) : sProp 𝕄) := by
  rw [sepL15]; unfold accOwn accSend; exact Transfers.pointsTo_toks_join fullShare 15

theorem sums_wp (Q : PUnit → sProp 𝕄) :
    iprop(records m K ∗ levAts L lv ∗ owing c (sendDue c l15) ∗ (held xvM c fullShare (xv m c) ∗ held dyvM c fullShare (dyv m c))
        ∗ anyBuf accM c ∗ slotAny c c ∗ dutyTok ER (rcvCell c c) 0 c ∗ cred (tallyAt (barCell c) () 15) ∗ atPos ER (barCell c) 0 ∅ 0)
      ⊢ iprop(((owing c (sendDue c l15) ∗ (held xvM c fullShare (xv m c) ∗ held dyvM c fullShare (dyv m c))
          ∗ sepL (accSend m c) l15 ∗ cred (tallyAt (rcvCell c c) () N) ∗ atPos ER (barCell c) 1 ∅ 0 ∗ sepL (fun k => slotAny (peer c k) c) l15)
            -∗ WP c Q (sends c l15 (arrivals l16 (prog3 c)))) -∗ WP c Q (prog2 c)) := by
  unfold prog2 anyBuf
  iintro ⟨#HR, #Hlev, HO, ⟨Hx, Hdy⟩, ⟨%fa, Hacc⟩, Hslot, Ht, Hcb, Hab⟩ Hk
  iapply (wp_load 𝒱₀ (c.tc : Thread nD τ) none Set.univ (m := xvM) (by rw [View.set_whole]; exact Finset.subset_univ _)) $$ Hx; iintro Hx
  rw [read_xv]
  iapply (wp_load 𝒱₀ (c.tc : Thread nD τ) none Set.univ (m := dyvM) (by rw [View.set_whole]; exact Finset.subset_univ _)) $$ Hdy; iintro Hdy
  rw [read_dyv]
  iapply (wp_load 𝒱₀ (c.tc : Thread nD τ) none Set.univ (m := accM) (by rw [View.set_whole]; exact Finset.subset_univ _)) $$ Hacc; iintro Hacc
  iapply (wp_load 𝒱₀ (c.tc : Thread nD τ) none Set.univ (m := accM) (by rw [View.set_whole]; exact Finset.subset_univ _)) $$ Hacc; iintro Hacc
  rw [read_acc]
  iapply (wp_store 𝒱₀ (c.tc : Thread nD τ) none Set.univ (m := accM) (r := rAcc) (Mk := Finset.univ) (by rw [View.set_whole]; exact Finset.subset_univ _)) $$ Hacc; iintro Hacc
  rw [write_acc]
  iapply (wp_load 𝒱₀ (c.tc : Thread nD τ) none Set.univ (m := accM) (by rw [View.set_whole]; exact Finset.subset_univ _)) $$ Hacc; iintro Hacc
  iapply (wp_load 𝒱₀ (c.tc : Thread nD τ) none Set.univ (m := accM) (by rw [View.set_whole]; exact Finset.subset_univ _)) $$ Hacc; iintro Hacc
  rw [read_acc]
  iapply (wp_store 𝒱₀ (c.tc : Thread nD τ) none Set.univ (m := accM) (r := rAcc) (Mk := Finset.univ) (by rw [View.set_whole]; exact Finset.subset_univ _)) $$ Hacc; iintro Hacc
  rw [write_acc, partials_eq]
  ihave Hs := (show ((View.loc (c.tc : Thread nD τ) (accM.access rAcc) ↦[accM.view.set]{fullShare} partials (xv m c) (dyv m c)) : sProp 𝕄) ⊢ _ from acc_split m c) $$ Hacc
  icases Hs with ⟨Hown, Hsend⟩
  iapply (keep_one m K c Q _ (mySlot_eq c) _ (myRecvS_eq c)) $$ [Ht Hown Hslot]
  · isplitr; · iexact HR
    isplitl [Ht]; · iexact Ht
    isplitl [Hown] <;> iassumption
  iintro Hcr
  unfold owing
  icases HO with ⟨%W, HO⟩
  iapply (Rounds.wp_wait_rest_token 𝒱₀ ER (Rd m) (c.tc : Thread nD τ) none (κ := K (c, kBar)) (sm := .reg barS)
    (wpE_semWait_eq 𝒱₀ (c.tc : Thread nD τ) none Set.univ) (Set.mem_univ _) () (O := sendDue c l15) (W := W) (R := 0) (m := 0) (T := ∅)
    (by rw [expect_bar])) $$ [HO Hcb Hab]
  · isplitr; · iapply (inv_of m K c kBar); iexact HR
    isplitl [Hcb]; · iexact Hcb
    isplitl [HO]; · iexact HO
    isplitr; · iapply (mayWait_mid c kBar (Nat.le_refl 1)); iexact Hlev
    iexact Hab
  iintro ⟨HO, Hab, -, Hpay⟩
  ihave Hp := (Entails.of_eq ((rest_bar m c).trans (sepL_peer c fun d => slotAny d c).symm)) $$ Hpay
  iapply Hk
  isplitl [HO]; · iexists _; iexact HO
  isplitl [Hx Hdy]; · isplitl [Hx] <;> iassumption
  isplitl [Hsend]; · iexact Hsend
  isplitl [Hcr]; · iexact Hcr
  isplitl [Hab] <;> iassumption

/-! ## Copies, arrivals, result, departures -/

theorem sepL_sep {I : Type} (A B : I → sProp 𝕄) : ∀ l : List I, iprop(sepL A l ∗ sepL B l) ⊢ sepL (fun i => iprop(A i ∗ B i)) l
  | [] => by unfold sepL; iintro ⟨H, -⟩; iexact H
  | i :: is => by
    unfold sepL
    iintro ⟨⟨Ha, Has⟩, ⟨Hb, Hbs⟩⟩
    isplitl [Ha Hb]; · isplitl [Ha] <;> iassumption
    iapply (sepL_sep A B is); isplitl [Has] <;> iassumption
theorem sepL_unsep {I : Type} (A B : I → sProp 𝕄) : ∀ l : List I, sepL (fun i => iprop(A i ∗ B i)) l ⊢ iprop(sepL A l ∗ sepL B l)
  | [] => by unfold sepL; iintro H; isplitl [H]; · iexact H
             iempintro
  | i :: is => by
    unfold sepL
    iintro ⟨⟨Ha, Hb⟩, Hr⟩
    ihave H := (sepL_unsep A B is) $$ Hr
    icases H with ⟨Has, Hbs⟩
    isplitl [Ha Has]; · isplitl [Ha] <;> iassumption
    isplitl [Hb] <;> iassumption

theorem slot_loc (s : Fin 16) : (slot s).view.loc (c.tc : Thread nD τ) = (c.tc : Thread nD τ).loc cc0_scratch3 := rfl

/-- The gathering buffer is its sixteen slots. -/
theorem gat_blocks (f : S16x2x2048.Idx → Elt F .bf16) :
    (held gatM c fullShare f : sProp 𝕄) = bigSep Finset.univ fun s : Fin 16 => held (slot s) c fullShare f := by
  have h : ((c.tc : Thread nD τ).loc cc0_scratch3 ↦{fullShare} f : sProp 𝕄)
      = bigSep Finset.univ fun s : Fin 16 => ((c.tc : Thread nD τ).loc cc0_scratch3 ↦[slotSet s]{fullShare} f) :=
    Ring.pointsTo_blocks (ℓ := (c.tc : Thread nD τ).loc cc0_scratch3) (I := slotSet) slot_disjoint slot_cover f
  unfold held; rw [View.set_whole]
  exact h

/-- The arrivals leave the gathering buffer whole and filled, and return the own copy's share of the partial sums. -/
theorem gather : sepL (rcvPay m c) l16 ⊢ iprop(held gatM c fullShare (gat m) ∗ accOwn m c) := by
  refine (show sepL (rcvPay m c) l16 ⊢ iprop(sepL (slotFull m c) l16 ∗ sepL (fun s => if s = c then accOwn m c else iprop(emp)) l16) from
    sepL_unsep _ _ l16).trans ?_
  rw [sepL16, sepL16]
  rw [gat_blocks]
  iintro ⟨H, Ho⟩
  isplitl [H]; · unfold slotFull; iexact H
  ihave Ho' := (show _ ⊢ _ from bigSep_elim (Φ := fun s : Fin 16 => (if s = c then accOwn m c else iprop(emp) : sProp 𝕄)) (Finset.mem_univ c)) $$ Ho
  ihave Ho'' := (Entails.of_eq (if_pos (rfl : c = c))) $$ Ho'
  iexact Ho''

theorem tail_wp (Q : PUnit → sProp 𝕄) :
    iprop(records m K ∗ owing c (sendDue c l15) ∗ (sepL (fun k => dutyTok ER (sndCell c k) 0 c) l15
        ∗ sepL (fun k => dutyTok ER (rcvCell (peer c k) c) 0 c) l15) ∗ sepL (accSend m c) l15 ∗ sepL (fun k => slotAny (peer c k) c) l15
        ∗ sepL (fun s => cred (tallyAt (rcvCell c s) () N)) l16 ∗ sepL (fun s => atPos ER (rcvCell c s) 0 ∅ 0) l16
        ∗ sepL (fun k => atPos ER (sndCell c k) 0 ∅ 0) l15 ∗ anyBuf outM c)
      ⊢ iprop(((owing c 0 ∗ held gatM c fullShare (gat m) ∗ held outM c fullShare (outv m) ∗ held accM c fullShare (acc m c)
          ∗ sepL (fun s => atPos ER (rcvCell c s) 1 ∅ 0) l16 ∗ sepL (fun k => atPos ER (sndCell c k) 1 ∅ 0) l15) -∗ WP c Q (.ret ⟨⟩))
            -∗ WP c Q (sends c l15 (arrivals l16 (prog3 c)))) := by
  iintro ⟨#HR, HO, ⟨Hts, Htr⟩, Hacc, Hsl, Hcr, Har, Has, Hout⟩ Hk
  iapply (sends_wp m K c Q 0 _ l15) $$ [HO Hts Htr Hacc Hsl]
  · isplitr; · iexact HR
    isplitl [HO]; · rw [zero_add]; iexact HO
    iapply (sepL_sep _ _ l15); isplitl [Hts]; · iexact Hts
    iapply (sepL_sep _ _ l15); isplitl [Htr]; · iexact Htr
    iapply (sepL_sep _ _ l15); isplitl [Hacc]; · iexact Hacc
    iexact Hsl
  iintro ⟨HO, Hcs⟩
  iapply (arrivals_wp m K c Q _ l16) $$ [HO Hcr Har]
  · isplitr; · iexact HR
    isplitl [HO]; · iexact HO
    iapply (sepL_sep _ _ l16); isplitl [Hcr] <;> iassumption
  iintro ⟨HO, Hrs⟩
  ihave Hrs' := (sepL_unsep _ _ l16) $$ Hrs
  icases Hrs' with ⟨Har, Hpay⟩
  ihave Hp := (gather m c) $$ Hpay
  icases Hp with ⟨Hgat, Hown⟩
  unfold prog3 anyBuf
  icases Hout with ⟨%fo, Hout⟩
  iapply (wp_load 𝒱₀ (c.tc : Thread nD τ) none Set.univ (m := gatM) (by rw [View.set_whole]; exact Finset.subset_univ _)) $$ Hgat; iintro Hgat
  rw [read_gat]
  iapply (wp_load 𝒱₀ (c.tc : Thread nD τ) none Set.univ (m := outM) (by rw [View.set_whole]; exact Finset.subset_univ _)) $$ Hout; iintro Hout
  iapply (wp_store 𝒱₀ (c.tc : Thread nD τ) none Set.univ (m := outM) (r := rAcc) (Mk := Finset.univ) (by rw [View.set_whole]; exact Finset.subset_univ _)) $$ Hout; iintro Hout
  rw [write_out]
  iapply (departures_wp m K c Q _ l15) $$ [HO Hcs Has]
  · isplitr; · iexact HR
    isplitl [HO]; · iexact HO
    isplitl [Hcs] <;> iassumption
  iintro ⟨HO, Hds⟩
  ihave Hds' := (sepL_unsep _ _ l15) $$ Hds
  icases Hds' with ⟨Has, Hsend⟩
  iapply Hk
  isplitl [HO]; · iexact HO
  isplitl [Hgat]; · iexact Hgat
  isplitl [Hout]; · unfold outv; iexact Hout
  isplitl [Hown Hsend]; · iapply (acc_join m c); isplitl [Hown] <;> iassumption
  isplitl [Har] <;> iassumption

end Cert.DgammaProof

end
-- ==== Proof.Body.lean ====
/- The body of the kernel on one device, from what the launch gives it to what it leaves, and the same as the
   obligation the launch asks for. -/
module

public import proofs.«01_k».proof.Proof.Phases

@[expose] public section

noncomputable section

namespace Cert.DgammaProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Kd → ℕ) (c : Dev nD)

/-! ## What the body starts from and leaves -/

/-- The inputs of device `c`, unchanged. -/
def args : sProp 𝕄 :=
  iprop((((c.tc : Thread nD τ).loc main_arg0) ↦{fullShare} m ((c.tc : Thread nD τ).loc main_arg0))
    ∗ (((c.tc : Thread nD τ).loc main_arg1) ↦{fullShare} m ((c.tc : Thread nD τ).loc main_arg1))
    ∗ (((c.tc : Thread nD τ).loc main_arg2) ↦{fullShare} m ((c.tc : Thread nD τ).loc main_arg2)))

/-- Its four scratch buffers at some contents. -/
def scratch : sProp 𝕄 := iprop(anyBuf xvM c ∗ anyBuf dyvM c ∗ anyBuf accM c ∗ anyBuf gatM c)

/-- Its position on each of its cells. -/
def positions : sProp 𝕄 := bigSep Finset.univ fun k : Kd => atPos ER (kcell (c, k)) 0 ∅ 0

/-- The tokens of the duties device `c` pays. -/
def payToks : sProp 𝕄 :=
  iprop((bigSep Finset.univ fun k : Fin 15 => dutyTok ER (barCell (peer c k)) 0 c)
    ∗ (bigSep Finset.univ fun d : Dev nD => dutyTok ER (rcvCell d c) 0 c)
    ∗ (bigSep Finset.univ fun k : Fin 15 => dutyTok ER (sndCell c k) 0 c)
    ∗ bigSep Finset.univ fun i : Fin 2 => dutyTok ER (inCell c i) 0 c)

/-- The units the other devices owe it: one each on its barrier, one copy each on its receive cells. -/
def credits : sProp 𝕄 :=
  iprop(cred (tallyAt (barCell c) () 15) ∗ bigSep (Finset.univ.erase c) fun s : Dev nD => cred (tallyAt (rcvCell c s) () N))

def ghost : sProp 𝕄 := iprop(∃ K, records m K ∗ positions c ∗ payToks c)
def start : sProp 𝕄 := iprop(ghost m c ∗ credits c ∗ levAts L lv ∗ args m c)
def Φ₀ : sProp 𝕄 := iprop(start m c ∗ scratch c)
def Φ₁ : sProp 𝕄 := iprop(args m c ∗ (bigSep Finset.univ fun k : Kd => semVal (kcell (c, k)) 0) ∗ scratch c)

def dats (_ : Fin 1) (c : Dev nD) : Dat τ (Elt F) Unit ℕ UU ℕ cfg0 c where
  A w := m ((cfg0.win w).arr.view.loc (c : Thread nD τ))
  after w _ := match w with
    | ⟨0, _⟩ => outv m
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## Splitting and joining -/

theorem bigSep_two (Φ : Fin 2 → sProp 𝕄) : bigSep Finset.univ Φ = iprop(Φ 0 ∗ Φ 1) := bigSep_univ_eq_bigSepL [0, 1] (by decide) (by decide) Φ

/-- A family over the cells of a device: the barrier's and the kernel's own. -/
theorem kd_option (Φ : Kd → sProp 𝕄) : bigSep Finset.univ Φ = iprop(Φ kBar ∗ bigSep Finset.univ fun o : Own => Φ (some o)) := by
  rw [bigSep_univ_equiv (Equiv.optionEquivSumPUnit Own).symm Φ, bigSep_univ_sum,
    show (Finset.univ : Finset PUnit.{1}) = {PUnit.unit} from rfl, bigSep_singleton]
  refine equiv_iff.mp ⟨?_, ?_⟩
  · show iprop((bigSep Finset.univ fun o : Own => Φ (some o)) ∗ Φ kBar) ⊢ _
    iintro ⟨Ho, Hb⟩; isplitl [Hb] <;> iassumption
  · show _ ⊢ iprop((bigSep Finset.univ fun o : Own => Φ (some o)) ∗ Φ kBar)
    iintro ⟨Hb, Ho⟩; isplitl [Ho] <;> iassumption
theorem kd_split (Φ : Kd → sProp 𝕄) :
    bigSep Finset.univ Φ = iprop(Φ kBar ∗ (Φ (kIn 0) ∗ Φ (kIn 1)) ∗ sepL (fun k => Φ (kSnd k)) l15 ∗ sepL (fun s => Φ (kRcv s)) l16) := by
  rw [sepL15, sepL16, kd_option, bigSep_univ_sum, bigSep_univ_sum, bigSep_two]; rfl

theorem take_own (Φ : Dev nD → sProp 𝕄) : bigSep Finset.univ Φ = iprop(Φ c ∗ bigSep (Finset.univ.erase c) Φ) := bigSep_erase (Finset.mem_univ c)
theorem own_and_peers (Φ : Dev nD → sProp 𝕄) : bigSep Finset.univ Φ = iprop(Φ c ∗ sepL (fun k => Φ (peer c k)) l15) := by
  rw [sepL_peer]; exact bigSep_erase (Finset.mem_univ c)

theorem slotAny_intro (s : Fin 16) (f : S16x2x2048.Idx → Elt F .bf16) : held (slot s) c fullShare f ⊢ slotAny c s := by
  unfold slotAny; iintro H; iexists f; iexact H

/-- The gathering buffer falls into the device's own slot and one slot for each peer. -/
theorem slots_split : anyBuf gatM c ⊢ (iprop(slotAny c c ∗ sepL (fun k => slotAny c (peer c k)) l15) : sProp 𝕄) := by
  rw [← own_and_peers c fun d => slotAny c d]
  unfold anyBuf
  iintro ⟨%f, H⟩
  ihave H' := (Entails.of_eq (gat_blocks c f)) $$ H
  iapply (show (bigSep Finset.univ fun d : Fin 16 => held (slot d) c fullShare f : sProp 𝕄) ⊢ bigSep Finset.univ fun d : Dev nD => slotAny c d from
    bigSep_mono fun d _ => slotAny_intro c d f)
  iexact H'

theorem args_split : args m c ⊢ (iprop((xIn m c ∗ dyIn m c) ∗ ((xIn m c ∗ dyIn m c) -∗ args m c)) : sProp 𝕄) := by
  unfold args xIn dyIn
  iintro ⟨H0, H1, H2⟩
  ihave H0' := ((pointsTo_split_subset (Finset.subset_univ (xRows c).view.set)).1) $$ H0
  ihave H1' := ((pointsTo_split_subset (Finset.subset_univ (dyRows c).view.set)).1) $$ H1
  icases H0' with ⟨Hx, Hxr⟩
  icases H1' with ⟨Hd, Hdr⟩
  isplitl [Hx Hd]; · isplitl [Hx] <;> iassumption
  iintro ⟨Hx, Hd⟩
  isplitl [Hx Hxr]
  · iapply ((pointsTo_split_subset (Finset.subset_univ (xRows c).view.set)).2); isplitl [Hx] <;> iassumption
  isplitl [Hd Hdr]
  · iapply ((pointsTo_split_subset (Finset.subset_univ (dyRows c).view.set)).2); isplitl [Hd] <;> iassumption
  iexact H2

/-- Every cell closes after its only round: its counter at zero is the device's again. -/
theorem close_all : iprop(records m K ∗ bigSep Finset.univ fun k : Kd => atPos ER (kcell (c, k)) 1 ∅ 0)
    ⊢ (|={Set.univ}=> bigSep Finset.univ fun k : Kd => semVal (kcell (c, k)) 0 : sProp 𝕄) := by
  refine (show _ ⊢ iprop(bigSep Finset.univ fun k : Kd => iprop(cellInv ER (Rd m) (K (c, k)) (kcell (c, k)) ∗ atPos ER (kcell (c, k)) 1 ∅ 0)) from ?_).trans (Rounds.cells_close ER (Rd m) Finset.univ (fun k : Kd => kcell (c, k)) (fun k => K (c, k))
    (fun k _ => Set.mem_univ _) (fun k _ h => h) (fun _ => 1) (fun k _ => duties_later m (kcell (c, k))))
  rw [bigSep_sep']
  iintro ⟨#HR, H⟩
  isplitr
  · iapply ((BI.bigSep_of_persistent Finset.univ (records m K)).trans (bigSep_mono fun k _ => inv_of m K c k)); iexact HR
  iexact H

/-! ## The body -/

def bodyPre : sProp 𝕄 :=
  iprop((records m K ∗ positions c ∗ payToks c) ∗ credits c ∗ levAts L lv ∗ args m c ∗ scratch c ∗ owing c (O₀ c) ∗ anyBuf outM c)
def bodyPost : sProp 𝕄 := iprop(Φ₁ m c ∗ owing c 0 ∗ held outM c fullShare (outv m))

theorem body_wp (Q : PUnit → sProp 𝕄) : iprop(bodyPre m K c ∗ (bodyPost m c -∗ Q ⟨⟩)) ⊢ WP c Q (prog c) := by
  unfold bodyPre positions payToks credits scratch
  rw [kd_split, own_and_peers c fun d => dutyTok ER (rcvCell d c) 0 c, bigSep_two,
    ← sepL15 fun k => dutyTok ER (barCell (peer c k)) 0 c, ← sepL15 fun k => dutyTok ER (sndCell c k) 0 c]
  iintro ⟨⟨⟨#HR, ⟨Hab, Hai, Has, Har⟩, Htb, ⟨Htrc, Htr⟩, Hts, Hti⟩, ⟨Hcb, Hcr⟩, #Hlev, Hargs, ⟨Hx, Hdy, Hacc, Hgat⟩, HO, Hout⟩, Hk⟩
  ihave Hsl := (slots_split (F := F) c) $$ Hgat
  icases Hsl with ⟨Hown, Hsl⟩
  ihave Hin := (args_split m c) $$ Hargs
  icases Hin with ⟨Hin, Hback⟩
  iapply (rows_wp m K c Q) $$ [HO Hai Hti Hx Hdy Hin Htb Hsl]
  · isplitr; · iexact HR
    isplitr; · iexact Hlev
    isplitl [HO]; · iexact HO
    isplitl [Hai]; · iexact Hai
    isplitl [Hti]; · iexact Hti
    isplitl [Hx Hdy]; · isplitl [Hx] <;> iassumption
    isplitl [Hin]; · iexact Hin
    iapply (sepL_sep _ _ l15); isplitl [Htb] <;> iassumption
  iintro ⟨HO, Hai, Hv, Hin⟩
  iapply (sums_wp m K c Q) $$ [HO Hv Hacc Hown Htrc Hcb Hab]
  · isplitr; · iexact HR
    isplitr; · iexact Hlev
    isplitl [HO]; · iexact HO
    isplitl [Hv]; · iexact Hv
    isplitl [Hacc]; · iexact Hacc
    isplitl [Hown]; · iexact Hown
    isplitl [Htrc]; · iexact Htrc
    isplitl [Hcb] <;> iassumption
  iintro ⟨HO, ⟨Hx, Hdy⟩, Hacc, Hcrc, Hab, Hsl⟩
  iapply (tail_wp m K c Q) $$ [HO Hts Htr Hacc Hsl Hcrc Hcr Har Has Hout]
  · isplitr; · iexact HR
    isplitl [HO]; · iexact HO
    isplitl [Hts Htr]; · isplitl [Hts] <;> iassumption
    isplitl [Hacc]; · iexact Hacc
    isplitl [Hsl]; · iexact Hsl
    isplitl [Hcrc Hcr]
    · iapply (Entails.of_eq ((take_own c fun s => (cred (tallyAt (rcvCell c s) () N) : sProp 𝕄)).symm.trans (sepL16 fun s => (cred (tallyAt (rcvCell c s) () N) : sProp 𝕄)).symm))
      isplitl [Hcrc] <;> iassumption
    isplitl [Har]; · iexact Har
    isplitl [Has] <;> iassumption
  iintro ⟨HO, Hgat, Hout, Hacc, Har, Has⟩
  unfold WP; rw [wp_ret]
  imod (close_all m K c) $$ [Hab Hai Has Har] with Hz
  · isplitr; · iexact HR
    rw [kd_split]
    isplitl [Hab]; · iexact Hab
    isplitl [Hai]; · iexact Hai
    isplitl [Has] <;> iassumption
  imodintro
  iapply Hk
  unfold bodyPost Φ₁ scratch anyBuf
  isplitr [HO Hout]
  · isplitl [Hin Hback]; · iapply Hback; iexact Hin
    isplitl [Hz]; · iexact Hz
    isplitl [Hx]; · iexists _; iexact Hx
    isplitl [Hdy]; · iexists _; iexact Hdy
    isplitl [Hacc]; · iexists _; iexact Hacc
    iexists _; iexact Hgat
  isplitl [HO] <;> iassumption

/-! ## The obligation -/

theorem owns_out (X : S2x2048.Idx → Elt F .f32) :
    (owns (Ix := Unit) (Name := ℕ) (U := UU) (Lvl := ℕ) (c : Thread nD τ) outM fullShare X : sProp 𝕄)
      = iprop(∃ f : S2x2048.Idx → Elt F .f32, ⌜f = X⌝ ∗ held outM c fullShare f) := by
  unfold owns; simp only [View.read_whole]; rfl

set_option maxRecDepth 65536 in
theorem body_obligation : BodyObligation (dats (F := F) m 0 c) (defs₀ (F := F)) 𝒱₀ () Set.univ := fun t => by
  rw [fin_N0 t, bigSep_W0, bigSep_W0]
  show iprop(Φ₀ m c ∗ (dats m 0 c).owesAt () t0_0.castSucc
      ∗ (∃ d, owns (Ix := Unit) (Name := ℕ) (U := UU) (Lvl := ℕ) (c : Thread nD τ) outM fullShare ((dats m 0 c).before (0 : Fin 1) t0_0 d)))
    ⊢ wp frame (wpE (defs₀ (F := F)) 𝒱₀ c none) Set.univ
        (cc0_body (F := F) xArr (Memref.isWhole_whole _) dyArr (Memref.isWhole_whole _) outM (Memref.isWhole_whole _) xvM (Memref.isWhole_whole _)
          dyvM (Memref.isWhole_whole _) accM (Memref.isWhole_whole _) gatM (Memref.isWhole_whole _) cc0_scratch4 cc0_scratch5 cc0_scratch6)
        (fun _ => iprop(Φ₁ m c ∗ (dats m 0 c).owesAt () t0_0.succ
          ∗ owns (Ix := Unit) (Name := ℕ) (U := UU) (Lvl := ℕ) (c : Thread nD τ) outM fullShare (outv m)))
  rw [body_eq, wp_deviceId]
  simp only [owns_out]
  unfold Φ₀ start ghost Dat.owesAt Pipeline.owesWithin
  iintro ⟨⟨⟨⟨%K, HR⟩, Hcr, Hlev, Hargs⟩, Hscr⟩, ⟨%W, %hW, HO⟩, ⟨%d, %g, %hg, Hout⟩⟩
  iapply (body_wp m K c _)
  unfold bodyPre bodyPost
  isplitr []
  · isplitl [HR]; · iexact HR
    isplitl [Hcr]; · iexact Hcr
    isplitl [Hlev]; · iexact Hlev
    isplitl [Hargs]; · iexact Hargs
    isplitl [Hscr]; · iexact Hscr
    isplitl [HO]; · unfold owing; iexists W; iexact HO
    unfold anyBuf; iexists g; iexact Hout
  unfold owing
  iintro ⟨HΦ, ⟨%W', HO⟩, Hout⟩
  isplitl [HΦ]; · iexact HΦ
  isplitl [HO]
  · iexists W'
    isplitr; · ipureintro; exact fun _ _ => Or.inl trivial
    iexact HO
  iexists _; isplitr; · (ipureintro; rfl)
  iexact Hout

end Cert.DgammaProof

end
-- ==== Proof.Launch.lean ====
/- The launch: the protocol's ghost state and duty tokens minted and dealt to the devices that pay them, the cells'
   invariants made, the credits counted, and the run of the whole program at any float values. -/
module

public import proofs.«01_k».proof.Proof.Body
public import Idealize.ShloMosaic.Lib.Quiescent
public import Idealize.ShloMosaic.Lib.Pipeline.CollectiveSegs
public import Idealize.ShloMosaic.Lib.Pipeline.ValueKit

@[expose] public section

noncomputable section

namespace Cert.DgammaProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Minting -/

theorem ownSemFacts : Pipeline.OwnSemFacts cfg0.spec osem := by decide +kernel

theorem share_eq (c : Dev nD) (w : Fin cfg0.W) : (dats m 0 c).share w = fullShare := by unfold Dat.share; split <;> rfl

def allCells : Finset (GSem nD τ sig) := Finset.univ.map ⟨kcell, kcell_injective⟩

/-- The duties a device pays: one on each peer's barrier, one on each device's receive cell of that number, its send
    cells' and its incoming-copy cells'. -/
abbrev Due : Type := Fin 15 ⊕ Dev nD ⊕ Fin 15 ⊕ Fin 2
abbrev dueAt (c : Dev nD) : Due → Dev nD × Kd
  | .inl k => (peer c k, kBar)
  | .inr (.inl d) => (d, kRcv c)
  | .inr (.inr (.inl k)) => (c, kSnd k)
  | .inr (.inr (.inr i)) => (c, kIn i)
theorem dueAt_injective (c : Dev nD) : Function.Injective (dueAt c)
  | .inl k, .inl k', h => congrArg Sum.inl (peer_injective c (congrArg Prod.fst h))
  | .inl _, .inr (.inl _), h => by cases congrArg Prod.snd h
  | .inl _, .inr (.inr (.inl _)), h => by cases congrArg Prod.snd h
  | .inl _, .inr (.inr (.inr _)), h => by cases congrArg Prod.snd h
  | .inr (.inl _), .inl _, h => by cases congrArg Prod.snd h
  | .inr (.inl d), .inr (.inl d'), h => congrArg (fun d => Sum.inr (Sum.inl d)) (congrArg Prod.fst h)
  | .inr (.inl _), .inr (.inr (.inl _)), h => by cases congrArg Prod.snd h
  | .inr (.inl _), .inr (.inr (.inr _)), h => by cases congrArg Prod.snd h
  | .inr (.inr (.inl _)), .inl _, h => by cases congrArg Prod.snd h
  | .inr (.inr (.inl _)), .inr (.inl _), h => by cases congrArg Prod.snd h
  | .inr (.inr (.inl k)), .inr (.inr (.inl k')), h => by cases congrArg Prod.snd h; rfl
  | .inr (.inr (.inl _)), .inr (.inr (.inr _)), h => by cases congrArg Prod.snd h
  | .inr (.inr (.inr _)), .inl _, h => by cases congrArg Prod.snd h
  | .inr (.inr (.inr _)), .inr (.inl _), h => by cases congrArg Prod.snd h
  | .inr (.inr (.inr _)), .inr (.inr (.inl _)), h => by cases congrArg Prod.snd h
  | .inr (.inr (.inr i)), .inr (.inr (.inr i')), h => by cases congrArg Prod.snd h; rfl

/-- A duty's token names its cell, the only round, and the device that pays. -/
abbrev tokOf (cj : Dev nD × Due) : GSem nD τ sig × ℕ × Fin 16 := (kcell (dueAt cj.1 cj.2), 0, cj.1)
theorem tokOf_injective : Function.Injective (tokOf : Dev nD × Due → GSem nD τ sig × ℕ × Fin 16) := by
  rintro ⟨c, j⟩ ⟨c', j'⟩ h
  have h1 : c = c' := congrArg (fun x : GSem nD τ sig × ℕ × Fin 16 => x.2.2) h
  subst h1
  have h2 : kcell (dueAt c j) = kcell (dueAt c j') := congrArg (fun x : GSem nD τ sig × ℕ × Fin 16 => x.1) h
  rw [dueAt_injective c (kcell_injective h2)]
def allToks : Finset (GSem nD τ sig × ℕ × Fin 16) := Finset.univ.map ⟨tokOf, tokOf_injective⟩

def u₀ : UU := (initOf (Pipeline.cells cfgs cellOf_inj) (Pipeline.launchToks cfgs cellOf_inj), initOf allCells allToks)

theorem payToks_eq (c : Dev nD) : (bigSep Finset.univ fun j : Due => dutyTok ER (kcell (dueAt c j)) 0 c : sProp 𝕄) = payToks c := by
  rw [bigSep_univ_sum, bigSep_univ_sum, bigSep_univ_sum]; rfl

/-- What the launch deals device `c`. -/
def G (c : Dev nD) : sProp 𝕄 :=
  iprop((bigSep Finset.univ fun k : Kd => roundState ER (Rd m) (kcell (c, k)) 0)
    ∗ (bigSep Finset.univ fun k : Kd => iprop(atPos ER (kcell (c, k)) 0 ∅ 0 ∗ reached ER (kcell (c, k)) 0)) ∗ payToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Kd => Φ (kcell (c, k)) := by
    unfold allCells; rw [bigSep_map, bigSep_univ_prod]; rfl
  have hT : bigSep allToks (fun x => (dutyTok ER x.1 x.2.1 x.2.2 : sProp 𝕄)) = bigSep Finset.univ fun c : Dev nD => payToks c := by
    unfold allToks; rw [bigSep_map, bigSep_univ_prod]
    exact bigSep_congr fun c _ => payToks_eq c
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants -/

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores and the barrier are the device's cells. -/
theorem sems0_eq (c : Dev nD) :
    (bigSep Finset.univ fun k : Kd => semVal (kcell (c, k)) 0 : sProp 𝕄)
      = iprop(unscopedSems0 c ∗ Pipeline.ownSems0 (Ix := Unit) (Name := ℕ) (U := UU) (Lvl := ℕ) (Val := Elt F) (τ := τ) osem c) := by
  rw [kd_option, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Kd => iprop(∃ κ : ℕ, cellInv ER (Rd m) κ (kcell (c, k))))
          ∗ (bigSep Finset.univ fun k : Kd => iprop(atPos ER (kcell (c, k)) 0 ∅ 0 ∗ reached ER (kcell (c, k)) 0)) ∗ payToks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Kd => semVal (kcell (c, k)) 0) ∗ bigSep Finset.univ fun k : Kd => roundState ER (Rd m) (kcell (c, k)) 0)
      ⊢ (|={Set.univ}=> bigSep Finset.univ fun k : Kd => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every device gets the records of all cells. -/
theorem spread {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k : Kd => iprop(∃ κ : ℕ, cellInv ER (Rd m) κ (kcell (c, k))))
          ∗ (bigSep Finset.univ fun k : Kd => iprop(atPos ER (kcell (c, k)) 0 ∅ 0 ∗ reached ER (kcell (c, k)) 0)) ∗ payToks c) : sProp 𝕄)
      ⊢ bigSep Finset.univ (ghost m) := by
  rw [bigSep_sep', bigSep_sep', ← bigSep_univ_prod (fun ck : Dev nD × Kd => iprop(∃ κ : ℕ, cellInv ER (Rd m) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄))]
  iintro ⟨HI, ⟨Hat, #HR⟩, Htok⟩
  ihave HK := (BI.bigSep_exists_pi Finset.univ (fun (ck : Dev nD × Kd) (κ : ℕ) => (cellInv ER (Rd m) κ (kcell ck) : sProp 𝕄))) $$ HI
  icases HK with ⟨%K, #HI⟩
  iapply (spread (R := records m K) (Φ := fun c => iprop(positions c ∗ payToks c)) fun c => by
    unfold ghost; iintro H; iexists K; iexact H)
  isplitr
  · unfold records; isplitl; · iexact HI
    iexact HR
  rw [bigSep_sep']
  isplitl [Hat]; · unfold positions; iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The credits -/

/-- How often device `c` is among the listed peers of `d`. -/
def hits (d c : Dev nD) : List (Fin 15) → ℕ
  | [] => 0
  | k :: ks => hits d c ks + if peer d k = c then 1 else 0

theorem hits_sum : ∀ c : Dev nD, ∑ d : Dev nD, hits d c l15 = 15 := by decide +kernel
theorem hits_one : ∀ c s : Dev nD, s ≠ c → hits s c l15 = 1 := by decide +kernel

theorem sig_bar (d c : Dev nD) : ∀ ks, sigDue d ks (barCell c) () = hits d c ks
  | [] => rfl
  | k :: ks => by
    rw [sigDue, Pi.add_apply, Finsupp.add_apply, sig_bar d c ks, tallyAt_apply, hits]
    by_cases h : peer d k = c
    · subst h; rw [if_pos ⟨rfl, rfl⟩, if_pos rfl]
    · rw [if_neg (fun hh => h (congrArg Prod.fst (kcell_injective hh.1)).symm), if_neg h]
theorem send_bar (d c : Dev nD) : ∀ ks, sendDue d ks (barCell c) () = 0 := fun ks => by
  rcases Nat.eq_zero_or_pos (sendDue d ks (barCell c) ()) with h | h
  · exact h
  · obtain ⟨k, hk⟩ := sendDue_pos h; cases congrArg Prod.snd (kcell_injective hk)
theorem sig_rcv (d c s : Dev nD) : ∀ ks, sigDue d ks (rcvCell c s) () = 0 := fun ks => by
  rcases Nat.eq_zero_or_pos (sigDue d ks (rcvCell c s) ()) with h | h
  · exact h
  · obtain ⟨k, hk⟩ := sigDue_pos h; cases congrArg Prod.snd (kcell_injective hk)
theorem send_rcv (d c : Dev nD) : ∀ ks, sendDue d ks (rcvCell c d) () = hits d c ks * N
  | [] => by rw [hits, Nat.zero_mul]; rfl
  | k :: ks => by
    rw [sendDue, Pi.add_apply, Finsupp.add_apply, send_rcv d c ks, tallyAt_apply, hits, Nat.add_mul]
    by_cases h : peer d k = c
    · subst h; rw [if_pos ⟨rfl, rfl⟩, if_pos rfl, Nat.one_mul]
    · rw [if_neg (fun hh => h (congrArg Prod.fst (kcell_injective hh.1)).symm), if_neg h, Nat.zero_mul]
theorem send_rcv_other (d c s : Dev nD) (h : d ≠ s) (ks : List (Fin 15)) : sendDue d ks (rcvCell c s) () = 0 := by
  rcases Nat.eq_zero_or_pos (sendDue d ks (rcvCell c s) ()) with h0 | h0
  · exact h0
  · obtain ⟨k, hk⟩ := sendDue_pos h0
    cases congrArg Prod.snd (kcell_injective hk)
    exact absurd rfl h

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same]
  refine (Finset.sum_congr rfl fun d _ => ?_).trans (hits_sum c)
  unfold O₀; rw [Pi.add_apply, Finsupp.add_apply, send_bar, sig_bar, Nat.zero_add]
theorem launch_rcv (c s : Dev nD) (h : s ≠ c) :
    tallyOn (rcvCell c s) (launchCredit (Pipeline.owing O₀) 0 (rcvCell c s)) = (tallyAt (rcvCell c s) () N : CellTallies nD τ sig Unit) := by
  unfold tallyAt; refine congrArg _ (Finsupp.ext fun u => ?_); cases u
  rw [Pipeline.launchCredit_owing, Finsupp.single_eq_same, Finset.sum_eq_single s]
  · unfold O₀; rw [Pi.add_apply, Finsupp.add_apply, sig_rcv, send_rcv, hits_one c s h, Nat.one_mul, Nat.add_zero]
  · intro d _ hd
    unfold O₀; rw [Pi.add_apply, Finsupp.add_apply, sig_rcv, send_rcv_other d c s hd, Nat.add_zero]
  · exact fun hs => absurd (Finset.mem_univ s) hs

theorem creds (c : Dev nD) : (Pipeline.launchCred O₀ c : sProp 𝕄) ⊢ credits c := by
  unfold Pipeline.launchCred credits
  refine (bigSep_subset (Finset.subset_univ (Finset.univ.map ⟨semOf, semOf_injective⟩))).trans ?_
  rw [bigSep_map, kd_split]
  show iprop(cred (tallyOn (barCell c) (launchCredit (Pipeline.owing O₀) 0 (barCell c))) ∗ _
    ∗ _ ∗ sepL (fun s => cred (tallyOn (rcvCell c s) (launchCredit (Pipeline.owing O₀) 0 (rcvCell c s)))) l16) ⊢ _
  rw [launch_bar, sepL16, take_own c]
  iintro ⟨Hb, -, -, -, Hr⟩
  isplitl [Hb]; · iexact Hb
  iapply (Entails.of_eq (bigSep_congr fun s hs => congrArg cred (launch_rcv c s (Finset.ne_of_mem_erase hs)))); iexact Hr

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  rw [Pipeline.unscopedRestP_none, unscopedRest0_eq]
  iintro ⟨Hargs, Hlev, Hcr, -, HG⟩
  ihave Hc := (creds (F := F) c) $$ Hcr
  imodintro
  unfold start args
  isplitl
  · isplitl [HG]; · iexact HG
    isplitl [Hc]; · iexact Hc
    isplitl [Hlev]; · iexact Hlev
    iexact Hargs
  · iempintro

theorem scratch_eq (c : Dev nD) : (Pipeline.scopedRest cfg0.spec c : sProp 𝕄) = scratch c := by
  rw [scopedRest0_eq]; unfold scratch anyBuf held
  simp only [View.set_whole]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

theorem phi1_exit (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = Φ₁ m c from rfl, scratch_eq]
  unfold Φ₁; rw [sems0_eq]
  iintro ⟨Ha, ⟨Hu, Ho⟩, Hs⟩
  isplitl [Hu Ha]; · isplitl [Hu] <;> iassumption
  isplitl [Ho] <;> iassumption

theorem stage_sem : ∀ (w : Fin cfg0.W) (s : Fin (cfg0.win w).nbuf) (k : Kd), semOf k ≠ .dma ((cfg0.win w).sem s) := by decide +kernel

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (by unfold lv; rw [kindOf_none (stage_sem w s)]; rfl)
    · show _ ⊢ MayWait (c : Thread nD τ) _ () 0
      rw [MayWait_zero]; iintro -; iempintro

/-! ## The run -/

/-- The result array after the run is the gathered sum. -/
theorem result_eq (c : Dev nD) : (dats m 0 c).arrAt (0 : Fin 1) cfg0.N = outv m :=
  (dats (F := F) m 0 c).arrAt_eq_of_after_last (0 : Fin 1) t0_0 (by decide +kernel) (outv m) fun j => rfl

/-- What the reading of one device's inputs and barrier gives. -/
def QY (c : Dev nD) (s : MemSt nD τ sig (Elt F)) : Prop :=
  (∀ sm : SemLoc sig, sm.isScoped .tc = false → s.sem ((c.tc : Thread nD τ), sm) = 0)
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)

theorem read_whole_buf (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  iintro ⟨H, HSI⟩
  ihave %h := (SI_pointsTo_agree (st := s') (ℓ := ℓ) (I := Finset.univ) (q := fullShare) (f := f)) $$ [H HSI]
  · isplitl [HSI] <;> iassumption
  isplitr; · ipureintro; exact funext fun i => h i (Finset.mem_univ i)
  iexact HSI

theorem read_final (c : Dev nD) (s' : Phys nD τ sig (Elt F)) :
    (iprop((unscopedSems0 c ∗ args m c) ∗ emp ∗ SI s') : sProp 𝕄) ⊢ |={Set.univ}=> iprop(⌜QY m c s'.mem⌝ ∗ SI s') := by
  unfold args
  iintro ⟨⟨Hu, H0, H1, H2⟩, -, HSI⟩
  ihave H := (read_whole_buf _ _ s') $$ [H0 HSI]
  · isplitl [H0] <;> iassumption
  icases H with ⟨%h0, HSI⟩
  ihave H := (read_whole_buf _ _ s') $$ [H1 HSI]
  · isplitl [H1] <;> iassumption
  icases H with ⟨%h1, HSI⟩
  ihave H := (read_whole_buf _ _ s') $$ [H2 HSI]
  · isplitl [H2] <;> iassumption
  icases H with ⟨%h2, HSI⟩
  imod (Pipeline.unscopedSems0_read (X := unscopedSems0 c) (c := c) fupd_intro s') $$ [Hu HSI] with ⟨%hs, HSI⟩
  · isplitl [Hu] <;> iassumption
  imodintro
  isplitr; · ipureintro; exact ⟨hs, h0, h1, h2⟩
  iexact HSI

set_option maxRecDepth 8000 in
/-- From any memory with zero counters the run ends with the gathered sum in every device's result array, its inputs
    unchanged and every counter at zero. -/
theorem run_main : θ_run defs (onTc (τ := τ) (main (F := F))) ⟨m, fun _ => 0, ρ⟩ (fun r =>
    (∀ c : Dev nD, r.2.mem ((c.tc : Thread nD τ).loc main_v1) = outv m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m) (hout := phi1_exit m)
    (QY := QY m) (hY := read_final m)
    (hQ := fun _ h hs => ⟨fun c => ⟨((h c).1 (0 : Fin 1)).trans (result_eq m c), (h c).2.2.2⟩, sem_eq_zero hs fun c => (h c).2.2.1⟩)

/-- The run leaves the inputs unchanged and every counter at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h.1 c).2, h.2⟩) (run_main m ρ)

end Cert.DgammaProof

end
-- ==== Proof.Payloads.lean ====
/- What the kernel's arithmetic computes over the extended reals: a row's mean, its variance, the normalised entries, and
   the two partial sums over a device's rows. -/
module

public import proofs.«01_k».proof.Proof.Gen.KernelIdeal.Skeleton
public import Idealize.ShloMosaic.Lib.Pointwise
public import Idealize.ShloMosaic.Lib.IdealHost

@[expose] public section

noncomputable section

namespace Cert.DgammaProof

open Cert.KernelIdeal Cert.KernelIdeal.Gen
open Idealize.ShloMosaic

/-- One over the number of columns, and the small addend under the root. -/
def inv2048 : EReal := Ideal.ofBits .f32 0x3A000000#32
def eps : EReal := Ideal.ofBits .f32 0x3727C5AC#32

def mean (row : Fin 2048 → EReal) : EReal := (∑ k, row k) * inv2048
def variance (row : Fin 2048 → EReal) : EReal := (∑ k, (row k - mean row) * (row k - mean row)) * inv2048
/-- A row, normalised. -/
def normed (row : Fin 2048 → EReal) (j : Fin 2048) : EReal := (row j - mean row) * Ideal.rsqrt (variance row + eps)

theorem pay1_apply (x : Vec Ideal S256x2048 .f32) (r : Fin 256) : k0_pay1 x (ix1 r) = ∑ k : Fin 2048, x (ix2 r k) := by
  unfold k0_pay1
  pointwise

theorem pay2_apply (x dy : Vec Ideal S256x2048 .f32) (j : Fin 2048) :
    k0_pay2 x dy (k0_pay1 x) (ix2 (0 : Fin 1) j) = ∑ r : Fin 256, dy (ix2 r j) * normed (fun k => x (ix2 r k)) j := by
  unfold k0_pay2
  pointwise
  simp only [pay1_apply]; rfl

theorem pay3_apply (dy : Vec Ideal S256x2048 .f32) (j : Fin 2048) :
    k0_pay3 dy (ix2 (0 : Fin 1) j) = ∑ r : Fin 256, dy (ix2 r j) := by
  unfold k0_pay3
  pointwise

theorem pay4_apply (g : Vec Ideal S16x2x2048 .bf16) (a : Fin 2) (j : Fin 2048) :
    k0_pay4 g (ix2 a j) = ∑ s : Fin 16, g (ix3 s a j) := by
  unfold k0_pay4
  pointwise

end Cert.DgammaProof

end
-- ==== Proof.Arith.lean ====
/- The kernel's and the reference's arithmetic agree over the extended reals: multiplying by 2⁻¹¹ is dividing by 2048,
   and the reciprocal root of a variance plus the small addend is one over its root, also at infinity. -/
module

public import proofs.«01_k».proof.Proof.Payloads

@[expose] public section

noncomputable section

namespace Cert.DgammaProof

open Idealize.ShloMosaic

theorem inv2048_eq : inv2048 = ((1 / 2048 : ℝ) : EReal) := by
  unfold inv2048
  simp [Ideal.ofBits, Ideal.ieee, -EReal.coe_mul]; norm_num
theorem ofBits_2048 : Ideal.ofBits .f32 0x45000000#32 = ((2048 : ℝ) : EReal) := by
  simp [Ideal.ofBits, Ideal.ieee, -EReal.coe_mul]; norm_num
theorem eps_pos : ∃ e : ℝ, 0 < e ∧ eps = (e : EReal) := by
  unfold eps
  simp [Ideal.ofBits, Ideal.ieee, -EReal.coe_mul]

theorem div_2048 (x : EReal) : Ideal.div x (Ideal.ofBits .f32 0x45000000#32) = x * inv2048 := by
  rw [ofBits_2048, Ideal.div_coe (by norm_num : (2048 : ℝ) ≠ 0), inv2048_eq]

theorem square_nonneg (x : EReal) : 0 ≤ x * x := by
  induction x with
  | bot => simp
  | top => simp
  | coe r => exact_mod_cast mul_self_nonneg r

theorem variance_nonneg (row : Fin 2048 → EReal) : 0 ≤ variance row := by
  unfold variance
  refine mul_nonneg (Finset.sum_nonneg fun k _ => square_nonneg _) ?_
  rw [inv2048_eq]; exact_mod_cast (by norm_num : (0 : ℝ) ≤ 1 / 2048)

/-- One over the root of a variance plus the small addend. -/
theorem div_sqrt (v : EReal) (hv : 0 ≤ v) : Ideal.div 1 (Ideal.sqrt (v + eps)) = Ideal.rsqrt (v + eps) := by
  obtain ⟨e, he, h⟩ := eps_pos
  rw [h]
  induction v with
  | bot => exact absurd hv (by simp)
  | top =>
    rw [EReal.top_add_coe]
    show Ideal.div 1 ⊤ = 0
    simp [Ideal.div]
  | coe r =>
    have hr : 0 ≤ r := by exact_mod_cast hv
    have hpos : 0 < r + e := by linarith
    rw [← EReal.coe_add, Ideal.rsqrt_coe, Ideal.sqrt_coe, if_neg (not_lt.mpr hpos.le), if_neg (not_lt.mpr hpos.le), if_neg hpos.ne',
      Ideal.div_coe (Real.sqrt_pos.mpr hpos).ne', one_div, one_mul]

end Cert.DgammaProof

end
-- ==== Proof.Reference.lean ====
/- The reference's result over the extended reals, read at an index: the sums, over all 4096 rows, of `dy` times the
   normalised row and of `dy`. -/
module

public import proofs.«01_k».proof.Proof.Arith
public import proofs.«01_k».proof.Proof.Gen.ReferenceIdeal.Run

@[expose] public section

noncomputable section

namespace Cert.DgammaProof

open Cert.ReferenceIdeal Cert.ReferenceIdeal.Gen
open Idealize.ShloMosaic Idealize.ShloMosaic.TcCoe Idealize.SL.Sem

variable (X D : FVec Ideal S4096x2048 .f32)

/-- The rows' means, as a column. -/
def refMean : FVec Ideal S4096x1 .f32 :=
  Host.divf (broadcastInDim S4096x1 ![0] bcast_S4096_S4096x1_0 (Host.reduceAdd X (constant S_ .f32 0x00000000#32) reducesTo_S4096x2048_S4096_d1 h_S_))
    (broadcastInDim S4096x1 ![] bcast_S_S4096x1 (constant S_ .f32 0x45000000#32))
def refCentred : FVec Ideal S4096x2048 .f32 := subf X (broadcastInDim S4096x2048 ![0, 1] bcast_S4096x1_S4096x2048_0_1 (refMean X))
/-- What the squares' sum is divided by: 2048 less zero. -/
def refCount : FVec Ideal S_ .f32 := subf (constant S_ .f32 0x45000000#32) (sitofp .f32 (constantI S_ 32 0#32))
def refVar : FVec Ideal S4096x1 .f32 :=
  select (broadcastInDim S4096x1 ![] bcast_S_S4096x1 (cmpf .ogt refCount (constant S_ .f32 0x00000000#32)))
    (Host.divf (broadcastInDim S4096x1 ![0] bcast_S4096_S4096x1_0
        (Host.reduceAdd (mulf (refCentred X) (refCentred X)) (constant S_ .f32 0x00000000#32) reducesTo_S4096x2048_S4096_d1 h_S_))
      (broadcastInDim S4096x1 ![] bcast_S_S4096x1 refCount))
    (broadcastInDim S4096x1 ![] bcast_S_S4096x1 (id (constant S_ .f32 0x7FC00000#32)))
def refScale : FVec Ideal S4096x1 .f32 :=
  Host.divf (broadcastInDim S4096x1 ![] bcast_S_S4096x1 (constant S_ .f32 0x3F800000#32))
    (Host.sqrt (addf (refVar X) (broadcastInDim S4096x1 ![] bcast_S_S4096x1 (constant S_ .f32 0x3727C5AC#32))))
/-- The column sums of an array, as a row. -/
def colSums : FVec Ideal S1x2048 .f32 :=
  broadcastInDim S1x2048 ![1] bcast_S2048_S1x2048_1 (Host.reduceAdd X (constant S_ .f32 0x00000000#32) reducesTo_S4096x2048_S2048_d0 h_S_)
def refOut : FVec Ideal S2x2048 .f32 :=
  concatenate S2x2048 0 [⟨S1x2048, colSums (mulf D (mulf (refCentred X) (broadcastInDim S4096x2048 ![0, 1] bcast_S4096x1_S4096x2048_0_1 (refScale X))))⟩,
    ⟨S1x2048, colSums D⟩] concatenates_S1x2048_S1x2048_S2x2048_d0

/-- Row `r` of an array. -/
abbrev rowOf (X : FVec Ideal S4096x2048 .f32) (r : Fin 4096) : Fin 2048 → EReal := fun k => X (ix2 r k)

theorem colSums_apply (j : Fin 2048) : colSums X (ix2 (0 : Fin 1) j) = ∑ r : Fin 4096, X (ix2 r j) := by
  unfold colSums
  pointwise

theorem refMean_apply (r : Fin 4096) : refMean X (ix2 r (0 : Fin 1)) = mean (rowOf X r) := by
  unfold refMean mean
  rw [← div_2048]
  pointwise

theorem refCentred_apply (r : Fin 4096) (k : Fin 2048) : refCentred X (ix2 r k) = X (ix2 r k) - mean (rowOf X r) := by
  rw [← refMean_apply]
  unfold refCentred
  pointwise

theorem refCount_apply (i : S_.Idx) : refCount i = ((2048 : ℝ) : EReal) := by
  unfold refCount
  pointwise
  rw [ofBits_2048]
  show ((2048 : ℝ) : EReal) - (((0#32 : BitVec 32).toInt : ℝ) : EReal) = _
  rw [show (0#32 : BitVec 32).toInt = 0 from rfl, Int.cast_zero, EReal.coe_zero, sub_zero]

theorem refVar_apply (r : Fin 4096) : refVar X (ix2 r (0 : Fin 1)) = variance (rowOf X r) := by
  unfold refVar
  pointwise
  simp only [refCount_apply, refCentred_apply]
  rw [if_pos (by exact_mod_cast (by norm_num : (0 : ℝ) < 2048)), ← ofBits_2048, div_2048]
  rfl

theorem refScale_apply (r : Fin 4096) : refScale X (ix2 r (0 : Fin 1)) = Ideal.rsqrt (variance (rowOf X r) + eps) := by
  rw [← div_sqrt _ (variance_nonneg _), ← refVar_apply]
  unfold refScale
  pointwise
  rfl

theorem refOut_zero (j : Fin 2048) : refOut X D (ix2 (0 : Fin 2) j) = ∑ r : Fin 4096, D (ix2 r j) * normed (rowOf X r) j := by
  unfold refOut
  pointwise
  rw [colSums_apply]
  pointwise
  simp only [refCentred_apply, refScale_apply]
  rfl

theorem refOut_one (j : Fin 2048) : refOut X D (ix2 (1 : Fin 2) j) = ∑ r : Fin 4096, D (ix2 r j) := by
  unfold refOut
  pointwise
  exact colSums_apply D j

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.DgammaProof

end
-- ==== Proof.Value.lean ====
/- The kernel's result is the reference's: the sixteen devices' partial sums over 256 rows each add up to the sums over
   all 4096 rows. -/
module

public import proofs.«01_k».proof.Proof.Launch
public import proofs.«01_k».proof.Proof.Reference
public import Idealize.ShloMosaic.Lib.Layout

@[expose] public section

noncomputable section

namespace Cert.DgammaProof

open Cert.KernelIdeal Cert.KernelIdeal.Gen
open Idealize.ShloMosaic Idealize.ShloMosaic.TcCoe Idealize.SL.Sem

variable (m : (ℓ : Loc nD τ sig) → Buf (Elt Ideal) ℓ)

/-- Row `r` of device `s`'s 256 among all 4096. -/
abbrev globalRow (s : Fin 16) (r : Fin 256) : Fin 4096 := finProdFinEquiv (s, r)

theorem sum_rows (f : Fin 4096 → EReal) : (∑ s : Fin 16, ∑ r : Fin 256, f (globalRow s r)) = ∑ R : Fin 4096, f R := by
  rw [← Fintype.sum_prod_type' fun (s : Fin 16) (r : Fin 256) => f (globalRow s r)]
  exact Equiv.sum_comp (finProdFinEquiv : Fin 16 × Fin 256 ≃ Fin (16 * 256)) f

/-- The block of a whole array that device `s` holds. -/
abbrev blockOf (s : Fin 16) (X : (⟨2, ![4096, 2048]⟩ : Shape).Idx → EReal) : S2048x2048.Idx → EReal :=
  Layout.blockN ⟨2, ![2048, 2048]⟩ ⟨2, ![4096, 2048]⟩ (Layout.meshBlock [2, 2, 4] ![[0], []] s) X

theorem row_place : ∀ s : Fin 16, 2048 * ((Layout.meshBlock (r := 2) [2, 2, 4] ![[0], []] s) 0).val + (1024 * ((s.val / 4) % 2) + 256 * (s.val % 4)) = 256 * s.val := by
  decide +kernel
theorem col_place : ∀ s : Fin 16, ((Layout.meshBlock (r := 2) [2, 2, 4] ![[0], []] s) 1).val = 0 := by decide +kernel

/-- A device's row `r` is row `r` of its 256 in the whole array. -/
theorem block_rows (X : (⟨2, ![4096, 2048]⟩ : Shape).Idx → EReal) (s : Fin 16) (r : Fin 256) (k : Fin 2048)
    (a : S2048x2048.Idx) (h0 : (a 0).val = 1024 * ((s.val / 4) % 2) + 256 * (s.val % 4) + r.val) (h1 : (a 1).val = k.val) :
    blockOf s X a = X (ix2 (globalRow s r) k) := by
  unfold blockOf
  rw [Layout.blockN_apply]
  refine congrArg X (funext fun b => Fin.ext ?_)
  rw [Layout.TilesN.idx_val]
  have hp := row_place s
  have hc := col_place s
  match b with
  | ⟨0, _⟩ =>
    show ((Layout.meshBlock (r := 2) [2, 2, 4] ![[0], []] s) 0).val * 2048 + (a 0).val = r.val + 256 * s.val
    omega
  | ⟨1, _⟩ =>
    show ((Layout.meshBlock (r := 2) [2, 2, 4] ![[0], []] s) 1).val * 2048 + (a 1).val = k.val
    omega

variable (X D : (⟨2, ![4096, 2048]⟩ : Shape).Idx → EReal)

theorem rows_read (s : Fin 16) (r : Fin 256) (k : Fin 2048) : (xRows s).view.read (Elt Ideal) (blockOf s X) (ix2 r k) = X (ix2 (globalRow s r) k) := by
  have h := k0_off1_eq s
  refine block_rows X s r k (((xRows s).view).emb (ix2 r k)) ?_ ?_
  · show k0_off1 s 0 + 1 * r.val = _
    rw [h]; show 1024 * ((s.val / 4) % 2) + 256 * (s.val % 4) + 1 * r.val = _; omega
  · show k0_off1 s 1 + 1 * k.val = _
    rw [h]; show 0 + 1 * k.val = _; omega

section
variable (hx : ∀ c : Dev nD, m ((c.tc : Thread nD τ).loc main_arg0) = blockOf c X)
  (hd : ∀ c : Dev nD, m ((c.tc : Thread nD τ).loc main_arg1) = blockOf c D)
include hx

theorem xv_apply (s : Fin 16) (r : Fin 256) (k : Fin 2048) : xv m s (ix2 r k) = X (ix2 (globalRow s r) k) := by
  unfold xv; rw [hx s]; exact rows_read X s r k
omit hx
include hd
theorem dyv_apply (s : Fin 16) (r : Fin 256) (k : Fin 2048) : dyv m s (ix2 r k) = D (ix2 (globalRow s r) k) := by
  unfold dyv; rw [hd s]; exact rows_read D s r k
include hx

/-- The gathered sum is the reference's result. -/
theorem outv_eq : outv m = refOut X D := by
  funext i
  obtain ⟨a, j, rfl⟩ : ∃ (a : Fin 2) (j : Fin 2048), i = ix2 a j := ⟨i 0, i 1, ValueIdx.eq_ix2 i⟩
  unfold outv
  rw [pay4_apply]
  match a with
  | 0 =>
    rw [refOut_zero, ← sum_rows]
    refine Finset.sum_congr rfl fun s _ => ?_
    refine (show gat m (ix3 s 0 j) = k0_pay2 (xv m s) (dyv m s) (k0_pay1 (xv m s)) (ix2 (0 : Fin 1) j) from by
      unfold gat acc partials; exact if_pos rfl).trans ?_
    rw [pay2_apply]
    simp only [xv_apply m X hx, dyv_apply m D hd]
  | 1 =>
    rw [refOut_one, ← sum_rows]
    refine Finset.sum_congr rfl fun s _ => ?_
    refine (show gat m (ix3 s 1 j) = k0_pay3 (dyv m s) (ix2 (0 : Fin 1) j) from by
      unfold gat acc partials; exact if_neg Nat.one_ne_zero).trans ?_
    rw [pay3_apply]
    simp only [dyv_apply m D hd]
end

end Cert.DgammaProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

variable {F : FTy → Type} [FloatOps F]

/-- The kernel read at bits and at extended reals is one text: the two body tables agree at any float values. -/
theorem bodies_same : (Cert.Kernel.defs₀ (F := F)) = (Cert.KernelIdeal.defs₀ (F := F)) := by
  unfold Cert.Kernel.defs₀ Cert.KernelIdeal.defs₀
  congr 1
  funext l a
  match l, a with
  | 0, (t, s) => rfl

/-- So do the whole programs' tables. -/
theorem defs_same : (Cert.Kernel.defs (F := F)) = (Cert.KernelIdeal.defs (F := F)) :=
  congrArg (Pipeline.defs Cert.KernelIdeal.pcfgs) bodies_same

/-- The kernel at bits: its one run, proved at any float values, with the result dropped. -/
theorem frame_kernel : Cert.quiescent_Kernel := fun m ρ _ => by
  rw [defs_same]
  exact Cert.DgammaProof.run_frame (F := Bits) m ρ

/-- The same over the extended reals. -/
theorem frame_kernelIdeal : Cert.quiescent_KernelIdeal := fun m ρ _ => Cert.DgammaProof.run_frame (F := Ideal) m ρ

/-- The reference is a list of host operations on one device, and has no semaphores. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run m ρ)

/-- Over the extended reals the kernel's result is the reference's, at every input. -/
theorem value : Cert.algebraic_KernelIdeal_ReferenceIdeal := fun m ρ m' ρ' _ h =>
  ⟨Cert.DgammaProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ hr c => ⟨(hr.1 c).1.trans (Cert.DgammaProof.outv_eq m _ _ (fun c => (h c).1) (fun c => (h c).2.1)), (hr.1 c).2⟩)
      (Cert.DgammaProof.run_main (F := Ideal) m ρ),
    (θ_run Cert.ReferenceIdeal.defs _ _).mono (fun _ hr => hr 0) (Cert.DgammaProof.run_ref m' ρ')⟩

/-- All five claims. -/
theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
